-- ==== Defs.lean ====
def Pre_Kernel [hPre_position_in_row : Cert.Pre_position_in_row.Facts] (m : (ℓ : Loc Cert.Kernel.nD Cert.Kernel.τ Cert.Kernel.sig) → Buf (Elt Bits) ℓ) : Prop :=
  ∀ c : Dev Cert.Kernel.nD,
    (Cert.Pre_position_in_row.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_position_in_row : Cert.Pre_position_in_row.Facts] (m : (ℓ : Loc Cert.KernelIdeal.nD Cert.KernelIdeal.τ Cert.KernelIdeal.sig) → Buf (Elt Ideal) ℓ) : Prop :=
  ∀ c : Dev Cert.KernelIdeal.nD,
    (Cert.Pre_position_in_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_KernelIdeal_one_placeholder_finite_weights [hPre_one_placeholder_finite_weights : Cert.Pre_one_placeholder_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_one_placeholder_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_placeholder_finite_weights [hPre_one_placeholder_finite_weights : Cert.Pre_one_placeholder_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_one_placeholder_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2 = (fun _ => 1#1)

def quiescent_Kernel [hKernel : Cert.Kernel.Facts] [hPre_position_in_row : Cert.Pre_position_in_row.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_position_in_row : Cert.Pre_position_in_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_one_placeholder_finite_weights [hKernelIdeal : Cert.KernelIdeal.Facts] [hPre_one_placeholder_finite_weights : Cert.Pre_one_placeholder_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_placeholder_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_one_placeholder_finite_weights [hReferenceIdeal : Cert.ReferenceIdeal.Facts] [hPre_one_placeholder_finite_weights : Cert.Pre_one_placeholder_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_placeholder_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_one_placeholder_finite_weights [hKernelIdeal : Cert.KernelIdeal.Facts] [hReferenceIdeal : Cert.ReferenceIdeal.Facts] [hPre_one_placeholder_finite_weights : Cert.Pre_one_placeholder_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_placeholder_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_position_in_row : Cert.Pre_position_in_row.Facts) (hPre_one_placeholder_finite_weights : Cert.Pre_one_placeholder_finite_weights.Facts),
    quiescent_Kernel (hKernel := hKernel) (hPre_position_in_row := hPre_position_in_row)
    ∧ quiescent_KernelIdeal (hKernelIdeal := hKernelIdeal) (hPre_position_in_row := hPre_position_in_row)
    ∧ quiescent_KernelIdeal_pre_one_placeholder_finite_weights (hKernelIdeal := hKernelIdeal) (hPre_one_placeholder_finite_weights := hPre_one_placeholder_finite_weights)
    ∧ quiescent_ReferenceIdeal (hReferenceIdeal := hReferenceIdeal)
    ∧ quiescent_ReferenceIdeal_pre_one_placeholder_finite_weights (hReferenceIdeal := hReferenceIdeal) (hPre_one_placeholder_finite_weights := hPre_one_placeholder_finite_weights)
    ∧ preserves_Kernel_KernelIdeal
    ∧ algebraic_KernelIdeal_ReferenceIdeal_pre_one_placeholder_finite_weights (hKernelIdeal := hKernelIdeal) (hReferenceIdeal := hReferenceIdeal) (hPre_one_placeholder_finite_weights := hPre_one_placeholder_finite_weights)
-- ==== Pre_one_placeholder_finite_weights.lean ====
abbrev S128x77 : Shape := ⟨2, ![128, 77]⟩
abbrev S128x77x768 : Shape := ⟨3, ![128, 77, 768]⟩
abbrev S128 : Shape := ⟨1, ![128]⟩
abbrev S1x768 : Shape := ⟨2, ![1, 768]⟩
abbrev S768x3072 : Shape := ⟨2, ![768, 3072]⟩
abbrev S3072 : Shape := ⟨1, ![3072]⟩
abbrev S3072x3072 : Shape := ⟨2, ![3072, 3072]⟩
abbrev S3072x768 : Shape := ⟨2, ![3072, 768]⟩
abbrev S768 : Shape := ⟨1, ![768]⟩
abbrev S768x512 : Shape := ⟨2, ![768, 512]⟩
abbrev S512x768 : Shape := ⟨2, ![512, 768]⟩
abbrev S768x768 : Shape := ⟨2, ![768, 768]⟩
abbrev S_ : Shape := ⟨0, ![]⟩

class Facts : Prop where
  bcast_S_S128x77 : S_.BroadcastsInDim S128x77 (![] : Fin 0 → Fin S128x77.rank)
  natLt_1_32 : 1 < 32
  reducesTo_S128x77_S128_d1 : S128x77.ReducesTo [1] S128
  h_S_ : 0 < S_.numel
  bcast_S_S128 : S_.BroadcastsInDim S128 (![] : Fin 0 → Fin S128.rank)
  bcast_S_S1x768 : S_.BroadcastsInDim S1x768 (![] : Fin 0 → Fin S1x768.rank)
  bcast_S_S768x3072 : S_.BroadcastsInDim S768x3072 (![] : Fin 0 → Fin S768x3072.rank)
  bcast_S_S3072 : S_.BroadcastsInDim S3072 (![] : Fin 0 → Fin S3072.rank)
  bcast_S_S3072x3072 : S_.BroadcastsInDim S3072x3072 (![] : Fin 0 → Fin S3072x3072.rank)
  bcast_S_S3072x768 : S_.BroadcastsInDim S3072x768 (![] : Fin 0 → Fin S3072x768.rank)
  bcast_S_S768 : S_.BroadcastsInDim S768 (![] : Fin 0 → Fin S768.rank)
  bcast_S_S768x512 : S_.BroadcastsInDim S768x512 (![] : Fin 0 → Fin S768x512.rank)
  bcast_S_S512x768 : S_.BroadcastsInDim S512x768 (![] : Fin 0 → Fin S512x768.rank)

variable [Facts]

def fn_part2 {F : FTy → Type} [FloatOps F] (main_arg13 : FVec F S512x768 .f32) (main_arg14 : FVec F S768 .f32) (main_arg15 : FVec F S768x512 .f32) (main_arg16 : FVec F S768x512 .f32) (main_v5 : IVec S128 1) (main_v8 : IVec S1x768 1) (main_v11 : IVec S768x3072 1) (main_v14 : IVec S3072 1) (main_v17 : IVec S3072x3072 1) (main_v20 : IVec S3072 1) (main_v23 : IVec S3072x768 1) (main_v26 : IVec S768 1) (main_v29 : IVec S768x512 1) (main_v32 : IVec S768x512 1) (main_v33 : FVec F S768x512 .f32) (main_v34 : FVec F S768x512 .f32) : IVec S128 1 × IVec S1x768 1 × IVec S768x3072 1 × IVec S3072 1 × IVec S3072x3072 1 × IVec S3072 1 × IVec S3072x768 1 × IVec S768 1 × IVec S768x512 1 × IVec S768x512 1 × IVec S768x512 1 × IVec S512x768 1 × IVec S768 1 × IVec S768x512 1 × IVec S768x512 1 :=
  let main_v35 : IVec S768x512 1 := cmpf .olt main_v33 main_v34
  let main_v36 : FVec F S512x768 .f32 := Host.absf main_arg13
  let main_cst_11 : FVec F S_ .f32 := constant S_ .f32 0x7F800000#32
  let main_v37 : FVec F S512x768 .f32 := broadcastInDim S512x768 ![] bcast_S_S512x768 main_cst_11
  let main_v38 : IVec S512x768 1 := cmpf .olt main_v36 main_v37
  let main_v39 : FVec F S768 .f32 := Host.absf main_arg14
  let main_cst_12 : FVec F S_ .f32 := constant S_ .f32 0x7F800000#32
  let main_v40 : FVec F S768 .f32 := broadcastInDim S768 ![] bcast_S_S768 main_cst_12
  let main_v41 : IVec S768 1 := cmpf .olt main_v39 main_v40
  let main_v42 : FVec F S768x512 .f32 := Host.absf main_arg15
  let main_cst_13 : FVec F S_ .f32 := constant S_ .f32 0x7F800000#32
  let main_v43 : FVec F S768x512 .f32 := broadcastInDim S768x512 ![] bcast_S_S768x512 main_cst_13
  let main_v44 : IVec S768x512 1 := cmpf .olt main_v42 main_v43
  let main_v45 : FVec F S768x512 .f32 := Host.absf main_arg16
  let main_cst_14 : FVec F S_ .f32 := constant S_ .f32 0x7F800000#32
  let main_v46 : FVec F S768x512 .f32 := broadcastInDim S768x512 ![] bcast_S_S768x512 main_cst_14
  let main_v47 : IVec S768x512 1 := cmpf .olt main_v45 main_v46
  (main_v5, main_v8, main_v11, main_v14, main_v17, main_v20, main_v23, main_v26, main_v29, main_v32, main_v35, main_v38, main_v41, main_v44, main_v47)

def fn_part1 {F : FTy → Type} [FloatOps F] (main_arg7 : FVec F S3072 .f32) (main_arg8 : FVec F S3072x768 .f32) (main_arg9 : FVec F S768 .f32) (main_arg10 : FVec F S768x512 .f32) (main_arg11 : FVec F S768x512 .f32) (main_arg12 : FVec F S768x512 .f32) (main_arg13 : FVec F S512x768 .f32) (main_arg14 : FVec F S768 .f32) (main_arg15 : FVec F S768x512 .f32) (main_arg16 : FVec F S768x512 .f32) (main_v5 : IVec S128 1) (main_v8 : IVec S1x768 1) (main_v11 : IVec S768x3072 1) (main_v14 : IVec S3072 1) (main_v15 : FVec F S3072x3072 .f32) (main_v16 : FVec F S3072x3072 .f32) : IVec S128 1 × IVec S1x768 1 × IVec S768x3072 1 × IVec S3072 1 × IVec S3072x3072 1 × IVec S3072 1 × IVec S3072x768 1 × IVec S768 1 × IVec S768x512 1 × IVec S768x512 1 × IVec S768x512 1 × IVec S512x768 1 × IVec S768 1 × IVec S768x512 1 × IVec S768x512 1 :=
  let main_v17 : IVec S3072x3072 1 := cmpf .olt main_v15 main_v16
  let main_v18 : FVec F S3072 .f32 := Host.absf main_arg7
  let main_cst_5 : FVec F S_ .f32 := constant S_ .f32 0x7F800000#32
  let main_v19 : FVec F S3072 .f32 := broadcastInDim S3072 ![] bcast_S_S3072 main_cst_5
  let main_v20 : IVec S3072 1 := cmpf .olt main_v18 main_v19
  let main_v21 : FVec F S3072x768 .f32 := Host.absf main_arg8
  let main_cst_6 : FVec F S_ .f32 := constant S_ .f32 0x7F800000#32
  let main_v22 : FVec F S3072x768 .f32 := broadcastInDim S3072x768 ![] bcast_S_S3072x768 main_cst_6
  let main_v23 : IVec S3072x768 1 := cmpf .olt main_v21 main_v22
  let main_v24 : FVec F S768 .f32 := Host.absf main_arg9
  let main_cst_7 : FVec F S_ .f32 := constant S_ .f32 0x7F800000#32
  let main_v25 : FVec F S768 .f32 := broadcastInDim S768 ![] bcast_S_S768 main_cst_7
  let main_v26 : IVec S768 1 := cmpf .olt main_v24 main_v25
  let main_v27 : FVec F S768x512 .f32 := Host.absf main_arg10
  let main_cst_8 : FVec F S_ .f32 := constant S_ .f32 0x7F800000#32
  let main_v28 : FVec F S768x512 .f32 := broadcastInDim S768x512 ![] bcast_S_S768x512 main_cst_8
  let main_v29 : IVec S768x512 1 := cmpf .olt main_v27 main_v28
  let main_v30 : FVec F S768x512 .f32 := Host.absf main_arg11
  let main_cst_9 : FVec F S_ .f32 := constant S_ .f32 0x7F800000#32
  let main_v31 : FVec F S768x512 .f32 := broadcastInDim S768x512 ![] bcast_S_S768x512 main_cst_9
  let main_v32 : IVec S768x512 1 := cmpf .olt main_v30 main_v31
  let main_v33 : FVec F S768x512 .f32 := Host.absf main_arg12
  let main_cst_10 : FVec F S_ .f32 := constant S_ .f32 0x7F800000#32
  let main_v34 : FVec F S768x512 .f32 := broadcastInDim S768x512 ![] bcast_S_S768x512 main_cst_10
  fn_part2 (F := F) main_arg13 main_arg14 main_arg15 main_arg16 main_v5 main_v8 main_v11 main_v14 main_v17 main_v20 main_v23 main_v26 main_v29 main_v32 main_v33 main_v34

def fn {F : FTy → Type} [FloatOps F] (main_arg0 : IVec S128x77 32) (main_arg1 : FVec F S128x77x768 .f32) (main_arg2 : IVec S128 32) (main_arg3 : FVec F S1x768 .f32) (main_arg4 : FVec F S768x3072 .f32) (main_arg5 : FVec F S3072 .f32) (main_arg6 : FVec F S3072x3072 .f32) (main_arg7 : FVec F S3072 .f32) (main_arg8 : FVec F S3072x768 .f32) (main_arg9 : FVec F S768 .f32) (main_arg10 : FVec F S768x512 .f32) (main_arg11 : FVec F S768x512 .f32) (main_arg12 : FVec F S768x512 .f32) (main_arg13 : FVec F S512x768 .f32) (main_arg14 : FVec F S768 .f32) (main_arg15 : FVec F S768x512 .f32) (main_arg16 : FVec F S768x512 .f32) (main_arg17 : FVec F S768x512 .f32) (main_arg18 : FVec F S512x768 .f32) (main_arg19 : FVec F S768 .f32) (main_arg20 : FVec F S768x768 .f32) (main_arg21 : FVec F S768 .f32) : IVec S128 1 × IVec S1x768 1 × IVec S768x3072 1 × IVec S3072 1 × IVec S3072x3072 1 × IVec S3072 1 × IVec S3072x768 1 × IVec S768 1 × IVec S768x512 1 × IVec S768x512 1 × IVec S768x512 1 × IVec S512x768 1 × IVec S768 1 × IVec S768x512 1 × IVec S768x512 1 :=
  let main_c : IVec S_ 32 := constantI S_ 32 49408#32
  let main_v0 : IVec S128x77 32 := broadcastInDim S128x77 ![] bcast_S_S128x77 main_c
  let main_v1 : IVec S128x77 1 := cmpi .eq main_arg0 main_v0
  let main_v2 : IVec S128x77 32 := (extui 32 · natLt_1_32) main_v1
  let main_c_0 : IVec S_ 32 := constantI S_ 32 0#32
  let main_v3 : IVec S128 32 := (fun x v => Host.reduce IntOp.addi x v reducesTo_S128x77_S128_d1 h_S_) main_v2 main_c_0
  let main_c_1 : IVec S_ 32 := constantI S_ 32 1#32
  let main_v4 : IVec S128 32 := broadcastInDim S128 ![] bcast_S_S128 main_c_1
  let main_v5 : IVec S128 1 := cmpi .eq main_v3 main_v4
  let main_v6 : FVec F S1x768 .f32 := Host.absf main_arg3
  let main_cst : FVec F S_ .f32 := constant S_ .f32 0x7F800000#32
  let main_v7 : FVec F S1x768 .f32 := broadcastInDim S1x768 ![] bcast_S_S1x768 main_cst
  let main_v8 : IVec S1x768 1 := cmpf .olt main_v6 main_v7
  let main_v9 : FVec F S768x3072 .f32 := Host.absf main_arg4
  let main_cst_2 : FVec F S_ .f32 := constant S_ .f32 0x7F800000#32
  let main_v10 : FVec F S768x3072 .f32 := broadcastInDim S768x3072 ![] bcast_S_S768x3072 main_cst_2
  let main_v11 : IVec S768x3072 1 := cmpf .olt main_v9 main_v10
  let main_v12 : FVec F S3072 .f32 := Host.absf main_arg5
  let main_cst_3 : FVec F S_ .f32 := constant S_ .f32 0x7F800000#32
  let main_v13 : FVec F S3072 .f32 := broadcastInDim S3072 ![] bcast_S_S3072 main_cst_3
  let main_v14 : IVec S3072 1 := cmpf .olt main_v12 main_v13
  let main_v15 : FVec F S3072x3072 .f32 := Host.absf main_arg6
  let main_cst_4 : FVec F S_ .f32 := constant S_ .f32 0x7F800000#32
  let main_v16 : FVec F S3072x3072 .f32 := broadcastInDim S3072x3072 ![] bcast_S_S3072x3072 main_cst_4
  fn_part1 (F := F) main_arg7 main_arg8 main_arg9 main_arg10 main_arg11 main_arg12 main_arg13 main_arg14 main_arg15 main_arg16 main_v5 main_v8 main_v11 main_v14 main_v15 main_v16
-- ==== Pre_position_in_row.lean ====
abbrev S128x77 : Shape := ⟨2, ![128, 77]⟩
abbrev S128x77x768 : Shape := ⟨3, ![128, 77, 768]⟩
abbrev S128 : Shape := ⟨1, ![128]⟩
abbrev S1x768 : Shape := ⟨2, ![1, 768]⟩
abbrev S768x3072 : Shape := ⟨2, ![768, 3072]⟩
abbrev S3072 : Shape := ⟨1, ![3072]⟩
abbrev S3072x3072 : Shape := ⟨2, ![3072, 3072]⟩
abbrev S3072x768 : Shape := ⟨2, ![3072, 768]⟩
abbrev S768 : Shape := ⟨1, ![768]⟩
abbrev S768x512 : Shape := ⟨2, ![768, 512]⟩
abbrev S512x768 : Shape := ⟨2, ![512, 768]⟩
abbrev S768x768 : Shape := ⟨2, ![768, 768]⟩
abbrev S_ : Shape := ⟨0, ![]⟩

class Facts : Prop where
  bcast_S_S128x77 : S_.BroadcastsInDim S128x77 (![] : Fin 0 → Fin S128x77.rank)
  reducesTo_S128x77_S128_d1 : S128x77.ReducesTo [1] S128
  h_S_ : 0 < S_.numel
  bcast_S_S128 : S_.BroadcastsInDim S128 (![] : Fin 0 → Fin S128.rank)

variable [Facts]

def fn_where {F : FTy → Type} [FloatOps F] (arg0 : IVec S128x77 1) (arg1 : IVec S128x77 32) (arg2 : IVec S_ 32) : IVec S128x77 32 :=
  let v0 : IVec S_ 32 := id arg2
  let v1 : IVec S128x77 32 := broadcastInDim S128x77 ![] bcast_S_S128x77 v0
  let v2 : IVec S128x77 32 := select arg0 arg1 v1
  v2

def fn {F : FTy → Type} [FloatOps F] (main_arg0 : IVec S128x77 32) (main_arg1 : FVec F S128x77x768 .f32) (main_arg2 : IVec S128 32) (main_arg3 : FVec F S1x768 .f32) (main_arg4 : FVec F S768x3072 .f32) (main_arg5 : FVec F S3072 .f32) (main_arg6 : FVec F S3072x3072 .f32) (main_arg7 : FVec F S3072 .f32) (main_arg8 : FVec F S3072x768 .f32) (main_arg9 : FVec F S768 .f32) (main_arg10 : FVec F S768x512 .f32) (main_arg11 : FVec F S768x512 .f32) (main_arg12 : FVec F S768x512 .f32) (main_arg13 : FVec F S512x768 .f32) (main_arg14 : FVec F S768 .f32) (main_arg15 : FVec F S768x512 .f32) (main_arg16 : FVec F S768x512 .f32) (main_arg17 : FVec F S768x512 .f32) (main_arg18 : FVec F S512x768 .f32) (main_arg19 : FVec F S768 .f32) (main_arg20 : FVec F S768x768 .f32) (main_arg21 : FVec F S768 .f32) : IVec S128 1 :=
  let main_v0 : IVec S128x77 32 := iotaInDim S128x77 32 1
  let main_c : IVec S_ 32 := constantI S_ 32 49408#32
  let main_v1 : IVec S128x77 32 := broadcastInDim S128x77 ![] bcast_S_S128x77 main_c
  let main_v2 : IVec S128x77 1 := cmpi .eq main_arg0 main_v1
  let main_c_0 : IVec S_ 32 := constantI S_ 32 0#32
  let main_v3 : IVec S128x77 32 := fn_where (F := F) main_v2 main_v0 main_c_0
  let main_c_1 : IVec S_ 32 := constantI S_ 32 0#32
  let main_v4 : IVec S128 32 := (fun x v => Host.reduce IntOp.addi x v reducesTo_S128x77_S128_d1 h_S_) main_v3 main_c_1
  let main_c_2 : IVec S_ 32 := constantI S_ 32 0#32
  let main_v5 : IVec S128 32 := broadcastInDim S128 ![] bcast_S_S128 main_c_2
  let main_v6 : IVec S128 1 := cmpi .sge main_v4 main_v5
  let main_c_3 : IVec S_ 32 := constantI S_ 32 76#32
  let main_v7 : IVec S128 32 := broadcastInDim S128 ![] bcast_S_S128 main_c_3
  let main_v8 : IVec S128 1 := cmpi .sle main_v4 main_v7
  let main_v9 : IVec S128 1 := andi main_v6 main_v8
  main_v9
-- ==== Kernel.lean ====
abbrev S128x77 : Shape := ⟨2, ![128, 77]⟩
abbrev S128x77x768 : Shape := ⟨3, ![128, 77, 768]⟩
abbrev S128 : Shape := ⟨1, ![128]⟩
abbrev S1x768 : Shape := ⟨2, ![1, 768]⟩
abbrev S768x3072 : Shape := ⟨2, ![768, 3072]⟩
abbrev S3072 : Shape := ⟨1, ![3072]⟩
abbrev S3072x3072 : Shape := ⟨2, ![3072, 3072]⟩
abbrev S3072x768 : Shape := ⟨2, ![3072, 768]⟩
abbrev S768 : Shape := ⟨1, ![768]⟩
abbrev S768x512 : Shape := ⟨2, ![768, 512]⟩
abbrev S512x768 : Shape := ⟨2, ![512, 768]⟩
abbrev S768x768 : Shape := ⟨2, ![768, 768]⟩
abbrev S128x1 : Shape := ⟨2, ![128, 1]⟩
abbrev S1x3072 : Shape := ⟨2, ![1, 3072]⟩
abbrev S128x768 : Shape := ⟨2, ![128, 768]⟩
abbrev S3072x512 : Shape := ⟨2, ![3072, 512]⟩
abbrev S1x512 : Shape := ⟨2, ![1, 512]⟩
abbrev S128x3072 : Shape := ⟨2, ![128, 3072]⟩
abbrev S1x384 : Shape := ⟨2, ![1, 384]⟩
abbrev S128x384 : Shape := ⟨2, ![128, 384]⟩
abbrev S128x512 : Shape := ⟨2, ![128, 512]⟩
abbrev S128x1x768 : Shape := ⟨3, ![128, 1, 768]⟩
abbrev S_ : Shape := ⟨0, ![]⟩
abbrev S1x1 : Shape := ⟨2, ![1, 1]⟩
abbrev S1x1x768 : Shape := ⟨3, ![1, 1, 768]⟩

abbrev nBuf : Space → Nat
  | .hbm => 32
  | .vmem => 22
  | .smem => 1
  | _ => 0

abbrev bufTy : (tb : Table) → Fin (tcTables nBuf tb) → BufTy
  | .hbm, ⟨0, _⟩ => ⟨S128x77, .i32⟩
  | .hbm, ⟨1, _⟩ => ⟨S128x77x768, .f32⟩
  | .hbm, ⟨2, _⟩ => ⟨S128, .i32⟩
  | .hbm, ⟨3, _⟩ => ⟨S1x768, .f32⟩
  | .hbm, ⟨4, _⟩ => ⟨S768x3072, .f32⟩
  | .hbm, ⟨5, _⟩ => ⟨S3072, .f32⟩
  | .hbm, ⟨6, _⟩ => ⟨S3072x3072, .f32⟩
  | .hbm, ⟨7, _⟩ => ⟨S3072, .f32⟩
  | .hbm, ⟨8, _⟩ => ⟨S3072x768, .f32⟩
  | .hbm, ⟨9, _⟩ => ⟨S768, .f32⟩
  | .hbm, ⟨10, _⟩ => ⟨S768x512, .f32⟩
  | .hbm, ⟨11, _⟩ => ⟨S768x512, .f32⟩
  | .hbm, ⟨12, _⟩ => ⟨S768x512, .f32⟩
  | .hbm, ⟨13, _⟩ => ⟨S512x768, .f32⟩
  | .hbm, ⟨14, _⟩ => ⟨S768, .f32⟩
  | .hbm, ⟨15, _⟩ => ⟨S768x512, .f32⟩
  | .hbm, ⟨16, _⟩ => ⟨S768x512, .f32⟩
  | .hbm, ⟨17, _⟩ => ⟨S768x512, .f32⟩
  | .hbm, ⟨18, _⟩ => ⟨S512x768, .f32⟩
  | .hbm, ⟨19, _⟩ => ⟨S768, .f32⟩
  | .hbm, ⟨20, _⟩ => ⟨S768x768, .f32⟩
  | .hbm, ⟨21, _⟩ => ⟨S768, .f32⟩
  | .hbm, ⟨22, _⟩ => ⟨S128, .f32⟩
  | .hbm, ⟨23, _⟩ => ⟨S128x1, .f32⟩
  | .hbm, ⟨24, _⟩ => ⟨S1x3072, .f32⟩
  | .hbm, ⟨25, _⟩ => ⟨S1x3072, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S128x768, .f32⟩
  | .hbm, ⟨30, _⟩ => ⟨S128x1x768, .f32⟩
  | .hbm, ⟨31, _⟩ => ⟨S128x77x768, .f32⟩
  | .local _ .vmem, ⟨0, _⟩ => ⟨S128x1, .f32⟩
  | .local _ .vmem, ⟨1, _⟩ => ⟨S768x3072, .f32⟩
  | .local _ .vmem, ⟨2, _⟩ => ⟨S1x3072, .f32⟩
  | .local _ .vmem, ⟨3, _⟩ => ⟨S3072x512, .f32⟩
  | .local _ .vmem, ⟨4, _⟩ => ⟨S3072x512, .f32⟩
  | .local _ .vmem, ⟨5, _⟩ => ⟨S1x512, .f32⟩
  | .local _ .vmem, ⟨6, _⟩ => ⟨S1x512, .f32⟩
  | .local _ .vmem, ⟨7, _⟩ => ⟨S512x768, .f32⟩
  | .local _ .vmem, ⟨8, _⟩ => ⟨S512x768, .f32⟩
  | .local _ .vmem, ⟨9, _⟩ => ⟨S1x768, .f32⟩
  | .local _ .vmem, ⟨10, _⟩ => ⟨S1x768, .f32⟩
  | .local _ .vmem, ⟨11, _⟩ => ⟨S768x512, .f32⟩
  | .local _ .vmem, ⟨12, _⟩ => ⟨S512x768, .f32⟩
  | .local _ .vmem, ⟨13, _⟩ => ⟨S1x768, .f32⟩
  | .local _ .vmem, ⟨14, _⟩ => ⟨S768x768, .f32⟩
  | .local _ .vmem, ⟨15, _⟩ => ⟨S1x768, .f32⟩
  | .local _ .vmem, ⟨16, _⟩ => ⟨S128x768, .f32⟩
  | .local _ .vmem, ⟨17, _⟩ => ⟨S128x3072, .f32⟩
  | .local _ .vmem, ⟨18, _⟩ => ⟨S128x768, .f32⟩
  | .local _ .vmem, ⟨19, _⟩ => ⟨S128x77, .i32⟩
  | .local _ .vmem, ⟨20, _⟩ => ⟨S128x1x768, .f32⟩
  | .local _ .vmem, ⟨21, _⟩ => ⟨S128x1, .i32⟩
  | .local _ .smem, ⟨0, _⟩ => ⟨S128x1, .i32⟩
  | _, _ => ⟨S128x77, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_scratch0 : Ref sig .tc := ⟨.vmem, 21, rfl⟩
abbrev cc1_scratch1 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc1_sem0_0 : DmaSem sig := 17
abbrev cc1_sem1_0 : DmaSem sig := 18

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v19 : BitVec 1 := Scalar.cmpi .eq arg0 c5_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := .none

@[reducible] def k1_t1_loop : Scf.Loop 32 :=
  let c0_i32_3 : BitVec 32 := 0#32
  let c128_i32 : BitVec 32 := 128#32
  let v11 : BitVec 32 := Scalar.addi c0_i32_3 c128_i32
  let c1_i32 : BitVec 32 := 1#32
  ⟨c0_i32_3, v11, c1_i32⟩
def k1_off1 (k1_t1 : Fin k1_t1_loop.trips) : Fin 2 → Nat :=
  let c0_i32_3 : BitVec 32 := 0#32
  let c1_i32 : BitVec 32 := 1#32
  let arg9 : BitVec 32 := Scf.iv c0_i32_3 c1_i32 k1_t1
  let v13 : Index := Scalar.indexCast arg9
  let c0_9 : Index := 0#32
  ![v13.toNat, 0]
def k1_off2 (k1_t1 : Fin k1_t1_loop.trips) (v14 : BitVec 32) : Fin 3 → Nat :=
  let c0_i32_3 : BitVec 32 := 0#32
  let c1_i32 : BitVec 32 := 1#32
  let arg9 : BitVec 32 := Scf.iv c0_i32_3 c1_i32 k1_t1
  let c0_i32_10 : BitVec 32 := 0#32
  ![arg9.toNat, v14.toNat, 0]

def k1_chk1 (k1_t1 : Fin k1_t1_loop.trips) (v14 : BitVec 32) : Prop :=
  (∀ a, (k1_off2 k1_t1 v14) a + S1x1x768.size a ≤ S128x77x768.size a)
theorem k1_off2_inb : ∀ (k1_t1 : Fin k1_t1_loop.trips) (v14 : BitVec 32) (k1_hw1 : k1_chk1 k1_t1 v14), ∀ a, (k1_off2 k1_t1 v14) a + S1x1x768.size a ≤ S128x77x768.size a := fun k1_t1 v14 k1_hw1 => k1_hw1

def k1_off3 (k1_t1 : Fin k1_t1_loop.trips) : Fin 3 → Nat :=
  let c0_i32_3 : BitVec 32 := 0#32
  let c1_i32 : BitVec 32 := 1#32
  let arg9 : BitVec 32 := Scf.iv c0_i32_3 c1_i32 k1_t1
  let c0_i32_11 : BitVec 32 := 0#32
  let c0_i32_12 : BitVec 32 := 0#32
  ![arg9.toNat, 0, 0]
@[reducible] def k1_t2_loop : Scf.Loop 32 :=
  let c0_i32_5 : BitVec 32 := 0#32
  let c128_i32_6 : BitVec 32 := 128#32
  let v12 : BitVec 32 := Scalar.addi c0_i32_5 c128_i32_6
  let c1_i32_7 : BitVec 32 := 1#32
  ⟨c0_i32_5, v12, c1_i32_7⟩
def k1_off4 (k1_t2 : Fin k1_t2_loop.trips) : Fin 3 → Nat :=
  let c0_i32_5 : BitVec 32 := 0#32
  let c1_i32_7 : BitVec 32 := 1#32
  let arg9 : BitVec 32 := Scf.iv c0_i32_5 c1_i32_7 k1_t2
  let c0_i32_9 : BitVec 32 := 0#32
  let c0_i32_10 : BitVec 32 := 0#32
  ![arg9.toNat, 0, 0]
def k1_off5 (k1_t2 : Fin k1_t2_loop.trips) : Fin 3 → Nat :=
  let c0_i32_5 : BitVec 32 := 0#32
  let c1_i32_7 : BitVec 32 := 1#32
  let arg9 : BitVec 32 := Scf.iv c0_i32_5 c1_i32_7 k1_t2
  let c0_i32_11 : BitVec 32 := 0#32
  let c0_i32_12 : BitVec 32 := 0#32
  ![arg9.toNat, 0, 0]
abbrev stage1_0 : Fin 1 → Memref sig .tc .vmem S128x77 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S128x77 : Shape := ⟨2, ![128, 77]⟩
abbrev S128x77x768 : Shape := ⟨3, ![128, 77, 768]⟩
abbrev S128 : Shape := ⟨1, ![128]⟩
abbrev S1x768 : Shape := ⟨2, ![1, 768]⟩
abbrev S768x3072 : Shape := ⟨2, ![768, 3072]⟩
abbrev S3072 : Shape := ⟨1, ![3072]⟩
abbrev S3072x3072 : Shape := ⟨2, ![3072, 3072]⟩
abbrev S3072x768 : Shape := ⟨2, ![3072, 768]⟩
abbrev S768 : Shape := ⟨1, ![768]⟩
abbrev S768x512 : Shape := ⟨2, ![768, 512]⟩
abbrev S512x768 : Shape := ⟨2, ![512, 768]⟩
abbrev S768x768 : Shape := ⟨2, ![768, 768]⟩
abbrev S_ : Shape := ⟨0, ![]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S128x768 : Shape := ⟨2, ![128, 768]⟩
abbrev S128x3072 : Shape := ⟨2, ![128, 3072]⟩
abbrev S1x3072 : Shape := ⟨2, ![1, 3072]⟩
abbrev S128x1x768 : Shape := ⟨3, ![128, 1, 768]⟩
abbrev S1x1x768 : Shape := ⟨3, ![1, 1, 768]⟩
abbrev S128x1x512 : Shape := ⟨3, ![128, 1, 512]⟩
abbrev S128x1x8x64 : Shape := ⟨4, ![128, 1, 8, 64]⟩
abbrev S128x8x1x64 : Shape := ⟨4, ![128, 8, 1, 64]⟩
abbrev S128x8x1x1 : Shape := ⟨4, ![128, 8, 1, 1]⟩
abbrev S128x8x1 : Shape := ⟨3, ![128, 8, 1]⟩
abbrev S128x77x1 : Shape := ⟨3, ![128, 77, 1]⟩

abbrev nBuf : Space → Nat
  | .hbm => 153
  | .vmem => 0
  | .smem => 0
  | _ => 0

abbrev hbmTy0_0 (i : Nat) : BufTy := match i % 128 with
  | 0 => ⟨S128x77, .i32⟩
  | 1 => ⟨S128x77x768, .f32⟩
  | 2 => ⟨S128, .i32⟩
  | 3 => ⟨S1x768, .f32⟩
  | 4 => ⟨S768x3072, .f32⟩
  | 5 => ⟨S3072, .f32⟩
  | 6 => ⟨S3072x3072, .f32⟩
  | 7 => ⟨S3072, .f32⟩
  | 8 => ⟨S3072x768, .f32⟩
  | 9 => ⟨S768, .f32⟩
  | 10 => ⟨S768x512, .f32⟩
  | 11 => ⟨S768x512, .f32⟩
  | 12 => ⟨S768x512, .f32⟩
  | 13 => ⟨S512x768, .f32⟩
  | 14 => ⟨S768, .f32⟩
  | 15 => ⟨S768x512, .f32⟩
  | 16 => ⟨S768x512, .f32⟩
  | 17 => ⟨S768x512, .f32⟩
  | 18 => ⟨S512x768, .f32⟩
  | 19 => ⟨S768, .f32⟩
  | 20 => ⟨S768x768, .f32⟩
  | 21 => ⟨S768, .f32⟩
  | 22 => ⟨S_, .f32⟩
  | 23 => ⟨S_, .f32⟩
  | 24 => ⟨S_, .f32⟩
  | 25 => ⟨S384, .f32⟩
  | 26 => ⟨S_, .f32⟩
  | 27 => ⟨S384, .f32⟩
  | 28 => ⟨S384, .f32⟩
  | 29 => ⟨S_, .f32⟩
  | 30 => ⟨S384, .f32⟩
  | 31 => ⟨S384, .f32⟩
  | 32 => ⟨S384, .f32⟩
  | 33 => ⟨S128, .f32⟩
  | 34 => ⟨S128x1, .f32⟩
  | 35 => ⟨S1x384, .f32⟩
  | 36 => ⟨S128x384, .f32⟩
  | 37 => ⟨S128x384, .f32⟩
  | 38 => ⟨S128x384, .f32⟩
  | 39 => ⟨S128x384, .f32⟩
  | 40 => ⟨S128x384, .f32⟩
  | 41 => ⟨S128x768, .f32⟩
  | 42 => ⟨S128x3072, .f32⟩
  | 43 => ⟨S1x3072, .f32⟩
  | 44 => ⟨S128x3072, .f32⟩
  | 45 => ⟨S128x3072, .f32⟩
  | 46 => ⟨S128x3072, .f32⟩
  | 47 => ⟨S128x3072, .f32⟩
  | 48 => ⟨S_, .f32⟩
  | 49 => ⟨S128x3072, .f32⟩
  | 50 => ⟨S128x3072, .f32⟩
  | 51 => ⟨S_, .f32⟩
  | 52 => ⟨S128x3072, .f32⟩
  | 53 => ⟨S128x3072, .f32⟩
  | 54 => ⟨S128x3072, .f32⟩
  | 55 => ⟨S128x3072, .f32⟩
  | 56 => ⟨S1x3072, .f32⟩
  | 57 => ⟨S128x3072, .f32⟩
  | 58 => ⟨S128x3072, .f32⟩
  | 59 => ⟨S128x3072, .f32⟩
  | 60 => ⟨S128x3072, .f32⟩
  | 61 => ⟨S_, .f32⟩
  | 62 => ⟨S128x3072, .f32⟩
  | 63 => ⟨S128x3072, .f32⟩
  | 64 => ⟨S_, .f32⟩
  | 65 => ⟨S128x3072, .f32⟩
  | 66 => ⟨S128x3072, .f32⟩
  | 67 => ⟨S128x3072, .f32⟩
  | 68 => ⟨S128x768, .f32⟩
  | 69 => ⟨S1x768, .f32⟩
  | 70 => ⟨S128x768, .f32⟩
  | 71 => ⟨S128x768, .f32⟩
  | 72 => ⟨S128x1x768, .f32⟩
  | 73 => ⟨S1x1x768, .f32⟩
  | 74 => ⟨S128x1x768, .f32⟩
  | 75 => ⟨S128x1x768, .f32⟩
  | 76 => ⟨S128x1x512, .f32⟩
  | 77 => ⟨S128x1x512, .f32⟩
  | 78 => ⟨S128x1x512, .f32⟩
  | 79 => ⟨S128x1x8x64, .f32⟩
  | 80 => ⟨S128x8x1x64, .f32⟩
  | 81 => ⟨S128x1x8x64, .f32⟩
  | 82 => ⟨S128x8x1x64, .f32⟩
  | 83 => ⟨S128x1x8x64, .f32⟩
  | 84 => ⟨S128x8x1x64, .f32⟩
  | 85 => ⟨S128x8x1x1, .f32⟩
  | 86 => ⟨S_, .f32⟩
  | 87 => ⟨S128x8x1x1, .f32⟩
  | 88 => ⟨S128x8x1x1, .f32⟩
  | 89 => ⟨S_, .f32⟩
  | 90 => ⟨S128x8x1, .f32⟩
  | 91 => ⟨S_, .f32⟩
  | 92 => ⟨S128x8x1, .f32⟩
  | 93 => ⟨S128x8x1, .f32⟩
  | 94 => ⟨S128x8x1x1, .f32⟩
  | 95 => ⟨S128x8x1x1, .f32⟩
  | 96 => ⟨S128x8x1x1, .f32⟩
  | 97 => ⟨S_, .f32⟩
  | 98 => ⟨S128x8x1, .f32⟩
  | 99 => ⟨S128x8x1x1, .f32⟩
  | 100 => ⟨S128x8x1x1, .f32⟩
  | 101 => ⟨S128x8x1x64, .f32⟩
  | 102 => ⟨S128x1x8x64, .f32⟩
  | 103 => ⟨S128x1x512, .f32⟩
  | 104 => ⟨S128x1x768, .f32⟩
  | 105 => ⟨S1x1x768, .f32⟩
  | 106 => ⟨S128x1x768, .f32⟩
  | 107 => ⟨S128x1x768, .f32⟩
  | 108 => ⟨S128x1x512, .f32⟩
  | 109 => ⟨S128x1x512, .f32⟩
  | 110 => ⟨S128x1x512, .f32⟩
  | 111 => ⟨S128x1x8x64, .f32⟩
  | 112 => ⟨S128x8x1x64, .f32⟩
  | 113 => ⟨S128x1x8x64, .f32⟩
  | 114 => ⟨S128x8x1x64, .f32⟩
  | 115 => ⟨S128x1x8x64, .f32⟩
  | 116 => ⟨S128x8x1x64, .f32⟩
  | 117 => ⟨S128x8x1x1, .f32⟩
  | 118 => ⟨S_, .f32⟩
  | 119 => ⟨S128x8x1x1, .f32⟩
  | 120 => ⟨S128x8x1x1, .f32⟩
  | 121 => ⟨S_, .f32⟩
  | 122 => ⟨S128x8x1, .f32⟩
  | 123 => ⟨S_, .f32⟩
  | 124 => ⟨S128x8x1, .f32⟩
  | 125 => ⟨S128x8x1, .f32⟩
  | 126 => ⟨S128x8x1x1, .f32⟩
  | 127 => ⟨S128x8x1x1, .f32⟩
  | _ => ⟨S128x77, .i32⟩

abbrev hbmTy0_1 (i : Nat) : BufTy := match i % 128 with
  | 0 => ⟨S128x8x1x1, .f32⟩
  | 1 => ⟨S_, .f32⟩
  | 2 => ⟨S128x8x1, .f32⟩
  | 3 => ⟨S128x8x1x1, .f32⟩
  | 4 => ⟨S128x8x1x1, .f32⟩
  | 5 => ⟨S128x8x1x64, .f32⟩
  | 6 => ⟨S128x1x8x64, .f32⟩
  | 7 => ⟨S128x1x512, .f32⟩
  | 8 => ⟨S128x1x768, .f32⟩
  | 9 => ⟨S1x1x768, .f32⟩
  | 10 => ⟨S128x1x768, .f32⟩
  | 11 => ⟨S128x1x768, .f32⟩
  | 12 => ⟨S128x1x768, .f32⟩
  | 13 => ⟨S1x1x768, .f32⟩
  | 14 => ⟨S128x1x768, .f32⟩
  | 15 => ⟨S128x1x768, .f32⟩
  | 16 => ⟨S128x768, .f32⟩
  | 17 => ⟨S_, .i32⟩
  | 18 => ⟨S128x77, .i32⟩
  | 19 => ⟨S128x77, .i1⟩
  | 20 => ⟨S128x77x1, .i1⟩
  | 21 => ⟨S128x1x768, .f32⟩
  | 22 => ⟨S128x77x768, .i1⟩
  | 23 => ⟨S128x77x768, .f32⟩
  | 24 => ⟨S128x77x768, .f32⟩
  | _ => ⟨S128x77, .i32⟩

abbrev hbmTy (i : Nat) : BufTy := match i / 128 with
  | 0 => hbmTy0_0 i
  | 1 => hbmTy0_1 i
  | _ => ⟨S128x77, .i32⟩

abbrev bufTy : (tb : Table) → Fin (tcTables nBuf tb) → BufTy
  | .hbm, ⟨i, _⟩ => hbmTy i
  | _, _ => ⟨S128x77, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_1 : Ref sig .tc := ⟨.hbm, 86, rfl⟩
abbrev main_v46 : Ref sig .tc := ⟨.hbm, 87, rfl⟩
abbrev main_v47 : Ref sig .tc := ⟨.hbm, 88, rfl⟩
abbrev main_cst_2 : Ref sig .tc := ⟨.hbm, 89, rfl⟩
abbrev main_v48 : Ref sig .tc := ⟨.hbm, 90, rfl⟩
abbrev main_cst_3 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_4 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_5 : Ref sig .tc := ⟨.hbm, 118, rfl⟩
abbrev main_v74 : Ref sig .tc := ⟨.hbm, 119, rfl⟩
abbrev main_v75 : Ref sig .tc := ⟨.hbm, 120, rfl⟩
abbrev main_cst_6 : Ref sig .tc := ⟨.hbm, 121, rfl⟩
abbrev main_v76 : Ref sig .tc := ⟨.hbm, 122, rfl⟩
abbrev main_cst_7 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_8 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_call2_v0 : Ref sig .tc := ⟨.hbm, 150, rfl⟩
abbrev main_call2_v1 : Ref sig .tc := ⟨.hbm, 151, rfl⟩
abbrev main_v101 : Ref sig .tc := ⟨.hbm, 152, rfl⟩

abbrev nD : Nat := 1
abbrev τ : Topo := Topo.v7x

variable {F : FTy → Type} [FloatOps F]
-- ==== Proof.PosWord.lean ====
/-
  The position word of a row: the sum of the columns that hold the placeholder token, as the kernel and as the two
  preconditions compute it. It is one finite sum of words over the row's columns, whichever unit adds it up; a row that
  holds the placeholder once has that column as its word.
-/
module

public import Idealize.ShloMosaic.PureOps.Reduce
public import Idealize.ShloMosaic.Lib.WordSum
public import Mathlib.Algebra.Order.BigOperators.Group.Finset
public import Idealize.ShloMosaic.Lib.ValueIdxCore

@[expose] public section

noncomputable section

namespace Cert.PosWord

open Idealize.ShloMosaic Idealize.ShloMosaic.ValueIdx

/-- A table of 128 rows of 77 columns, and a list of 128 entries. -/
abbrev T : Shape := ⟨2, ![128, 77]⟩
abbrev L : Shape := ⟨1, ![128]⟩

/-- The position word of row `b`. -/
def word (x : T.Idx → BitVec 32) (b : Fin 128) : BitVec 32 :=
  ∑ k : Fin 77, if x (ix2 b k) = 49408#32 then BitVec.ofNat 32 k.val else 0#32

/-- How many columns of row `b` hold the placeholder, as a word. -/
def count (x : T.Idx → BitVec 32) (b : Fin 128) : BitVec 32 :=
  ∑ k : Fin 77, if x (ix2 b k) = 49408#32 then 1#32 else 0#32

theorem reduces_TL : T.Reduces [1] L := by decide

theorem lift_eq (h : T.Reduces [1] L) (j : L.Idx) (k : Fin 77) : h.lift j k = ix2 (j 0) k := by
  funext a
  have hv := fun a => h.lift_val j k a
  fin_cases a
  · exact Fin.ext (by rw [hv]; rfl)
  · exact Fin.ext (by rw [hv]; rfl)

/-- Adding a row's words, on the vector unit. -/
theorem multiReductionI_row (v : IVec T 32) (h : T.Reduces [1] L) (hacc : (0#32 : BitVec 32) = IKind.add.neutral) (j : L.Idx) :
    multiReductionI .add [1] L v 0#32 h hacc j = ∑ k : Fin 77, v (ix2 (j 0) k) := by
  rw [multiReductionI_eq_fold, h.fold_filter_drop_single]
  have e : (v ∘ h.lift j : Fin 77 → BitVec 32) = fun k => v (ix2 (j 0) k) := funext fun k => congrArg v (lift_eq h j k)
  exact (congrArg (fun f : Fin 77 → BitVec 32 => (Finset.univ : Finset (Fin 77)).fold IntOp.addi 0#32 f) e).trans rfl

/-- Adding a row's words, on the host. -/
theorem hostReduce_row {u : Shape} (v : IVec T 32) (init : u.Idx → BitVec 32) (h : T.ReducesTo [1] L) (hu : 0 < u.numel)
    (hi : init (Shape.Idx.first hu) = 0#32) (j : L.Idx) :
    Host.reduce IntOp.addi v init h hu j = ∑ k : Fin 77, v (ix2 (j 0) k) := by
  rw [Host.reduce_eq_fold_single IntOp.addi v init h reduces_TL hu j, hi]
  have e : (v ∘ reduces_TL.lift j : Fin 77 → BitVec 32) = fun k => v (ix2 (j 0) k) := funext fun k => congrArg v (lift_eq reduces_TL j k)
  exact (congrArg (fun f : Fin 77 → BitVec 32 => (Finset.univ : Finset (Fin 77)).fold IntOp.addi 0#32 f) e).trans rfl

/-- A selection by the placeholder test. -/
theorem select_eq {α : Type} (x y : BitVec 32) (a b : α) : Scalar.select (IntOp.cmpi .eq x y) a b = if x = y then a else b := by
  unfold Scalar.select IntOp.cmpi
  by_cases h : x = y
  · simp [h]
  · have hb : (x == y) = false := by simpa using h
    simp [h, hb]

theorem ext_eq (x y : BitVec 32) : (IntOp.cmpi .eq x y).setWidth 32 = if x = y then 1#32 else 0#32 := by
  unfold IntOp.cmpi
  by_cases h : x = y
  · simp [h]
  · have hb : (x == y) = false := by simpa using h
    simp [h, hb]

/-- A word that is signed at least 0 and at most 76 is a column. -/
theorem lt_of_bounds (w : BitVec 32) (h0 : IntOp.cmpi .sge w 0#32 = 1#1) (h1 : IntOp.cmpi .sle w 76#32 = 1#1) : w.toNat < 77 := by
  unfold IntOp.cmpi at h0 h1
  simp only [BitVec.ofBool_eq_iff_eq] at h0 h1
  have a0 : (0#32).sle w = true := by revert h0; cases (0#32).sle w <;> simp
  have a1 : w.sle 76#32 = true := by revert h1; cases w.sle 76#32 <;> simp
  rw [BitVec.sle_iff_toInt_le] at a0 a1
  have e0 : (0#32 : BitVec 32).toInt = 0 := by decide
  have e1 : (76#32 : BitVec 32).toInt = 76 := by decide
  rw [e0] at a0; rw [e1] at a1
  have : w.toInt = if 2 * w.toNat < 2 ^ 32 then (w.toNat : ℤ) else (w.toNat : ℤ) - 2 ^ 32 := BitVec.toInt_eq_toNat_cond w
  have hl := w.isLt
  split at this <;> omega

/-- A row that counts one placeholder holds it in exactly one column, and its word is that column. -/
theorem unique_of_count (x : T.Idx → BitVec 32) (b : Fin 128) (h : count x b = 1#32) :
    ∃ k : Fin 77, (∀ j : Fin 77, x (ix2 b j) = 49408#32 ↔ j = k) ∧ (word x b).toNat = k.val := by
  have hn : (count x b).toNat = ∑ k : Fin 77, if x (ix2 b k) = 49408#32 then 1 else 0 := by
    have e : ∀ k : Fin 77, (if x (ix2 b k) = 49408#32 then 1#32 else 0#32 : BitVec 32).toNat = if x (ix2 b k) = 49408#32 then 1 else 0 :=
      fun k => by split <;> rfl
    unfold count
    rw [WordSum.toNat_sum, Finset.sum_congr rfl fun k _ => e k]
    rw [Finset.sum_congr rfl fun k _ => e k]
    calc (∑ k : Fin 77, if x (ix2 b k) = 49408#32 then 1 else 0) ≤ ∑ _k : Fin 77, 1 := Finset.sum_le_sum fun k _ => by split <;> omega
      _ < 2 ^ 32 := by simp
  rw [h] at hn
  have hc : (Finset.univ.filter fun k : Fin 77 => x (ix2 b k) = 49408#32).card = 1 := by
    rw [Finset.card_filter]; exact hn.symm
  obtain ⟨k, hk⟩ := Finset.card_eq_one.mp hc
  have hu : ∀ j : Fin 77, x (ix2 b j) = 49408#32 ↔ j = k := fun j => by
    have := Finset.ext_iff.mp hk j
    simpa using this
  refine ⟨k, hu, ?_⟩
  have : word x b = BitVec.ofNat 32 k.val := by
    unfold word
    rw [Finset.sum_eq_single k]
    · rw [if_pos ((hu k).mpr rfl)]
    · intro j _ hj; rw [if_neg (fun e => hj ((hu j).mp e))]; rfl
    · intro hk; exact absurd (Finset.mem_univ k) hk
  rw [this, BitVec.toNat_ofNat, Nat.mod_eq_of_lt (lt_trans k.isLt (by decide))]

end Cert.PosWord

end
-- ==== Proof.Pre.lean ====
/-
  What the precondition `position_in_row` says of the arrays it is evaluated on: the position word of each row is a column.
-/
module

public import proofs.«01_k».proof.Defs
public import proofs.«01_k».proof.Proof.PosWord

@[expose] public section

set_option maxRecDepth 16384

noncomputable section

namespace Cert.PreFacts

open Idealize.ShloMosaic Idealize.ShloMosaic.ValueIdx

theorem and_one (x y : BitVec 1) (h : IntOp.andi x y = 1#1) : x = 1#1 ∧ y = 1#1 := by
  revert h; unfold IntOp.andi
  revert x y; decide

section Row

open Cert.Pre_position_in_row

theorem row [Facts] {F : FTy → Type} [FloatOps F] (a0 : IVec S128x77 32) (a1 : FVec F S128x77x768 .f32) (a2 : IVec S128 32) (a3 : FVec F S1x768 .f32) (a4 : FVec F S768x3072 .f32) (a5 : FVec F S3072 .f32) (a6 : FVec F S3072x3072 .f32) (a7 : FVec F S3072 .f32) (a8 : FVec F S3072x768 .f32) (a9 : FVec F S768 .f32) (a10 : FVec F S768x512 .f32) (a11 : FVec F S768x512 .f32) (a12 : FVec F S768x512 .f32) (a13 : FVec F S512x768 .f32) (a14 : FVec F S768 .f32) (a15 : FVec F S768x512 .f32) (a16 : FVec F S768x512 .f32) (a17 : FVec F S768x512 .f32) (a18 : FVec F S512x768 .f32) (a19 : FVec F S768 .f32) (a20 : FVec F S768x768 .f32) (a21 : FVec F S768 .f32)
    (h : fn (F := F) a0 a1 a2 a3 a4 a5 a6 a7 a8 a9 a10 a11 a12 a13 a14 a15 a16 a17 a18 a19 a20 a21 = fun _ => 1#1) (b : Fin 128) : (PosWord.word a0 b).toNat < 77 := by
  have hb := congrFun h (ix1 b)
  obtain ⟨h0, h1⟩ := and_one _ _ hb
  have e : Host.reduce IntOp.addi (fn_where (F := F) (cmpi .eq a0 (broadcastInDim S128x77 ![] Facts.bcast_S_S128x77 (constantI S_ 32 49408#32)))
      (iotaInDim S128x77 32 1) (constantI S_ 32 0#32)) (constantI S_ 32 0#32) Facts.reducesTo_S128x77_S128_d1 Facts.h_S_ (ix1 b) = PosWord.word a0 b := by
    refine (PosWord.hostReduce_row _ _ Facts.reducesTo_S128x77_S128_d1 Facts.h_S_ rfl (ix1 b)).trans ?_
    unfold PosWord.word
    refine Finset.sum_congr rfl fun k _ => ?_
    exact PosWord.select_eq (a0 (ix2 b k)) 49408#32 (BitVec.ofNat 32 k.val) 0#32
  have h0' : IntOp.cmpi .sge (PosWord.word a0 b) 0#32 = 1#1 := by rw [← e]; exact h0
  have h1' : IntOp.cmpi .sle (PosWord.word a0 b) 76#32 = 1#1 := by rw [← e]; exact h1
  exact PosWord.lt_of_bounds _ h0' h1'

end Row

end Cert.PreFacts

end
-- ==== Proof.KernelIdeal.Scatter.lean ====
/-
  The second pallas_call's body (`cc1__scatter_body`) as a triple: it computes each row's position word, copies the
  words to scalar memory, issues 128 row copies on ONE semaphore and then drains that semaphore with 128 waits.

  The result array `main_v9` is held row by row (row `b`: the elements whose leading index is `b`) and so is the staged
  source: copy `b` lends row `b` of each, so the copies are the 128 transfers of one `Transfers.Batch`, whose delivery
  `b` is row `b` of the result at its final contents (`scat`) beside row `b` of the source, unchanged.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Batch
public import Idealize.ShloMosaic.Lib.Ring
public import Idealize.ShloMosaic.Lib.Tactic
public import Idealize.ShloMosaic.Lib.ValueIdxCore
public import Idealize.ShloMosaic.Lib.Pipeline.Value
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The pipeline library's algebra beside the counters the copies' invariants take their tokens from. -/
abbrev UU : Type := UR sig nD τ × Counters

local notation "𝕄" => MT nD τ sig Unit (Elt F) ℕ UU ℕ

/-- A store of a view's own sizes, made last, leaves the view reading its payload. -/
theorem read_full_store {sg : RefSig} {κ : Kind} {sp : Space} {s : Shape} {e : EltTy} {Val : EltTy → Type} (v : View sg κ sp s e)
    (g : v.ty.Contents Val) {off : Fin s.rank → ℕ} (inb : ∀ a, off a + s.size a ≤ s.size a) (w : s.Idx → Val e) (L : List (View.Piece Val s e)) :
    v.read Val (v.writes Val g (⟨Rect.unit off s.size inb, w⟩ :: L)) = w := by
  funext y
  refine View.read_writes_cons_hit_of_coords v g (Rect.unit off s.size inb) w L y y fun a => ?_
  show (y a).val = off a + 1 * (y a).val
  have := inb a; omega

/-! ## Rows -/

/-- The elements of the result (of the source) in row `b`. -/
def dRow (b : Fin 128) : Finset S128x77x768.Idx := Finset.univ.filter fun y => (y 0).val = b.val
def sRow (b : Fin 128) : Finset S128x1x768.Idx := Finset.univ.filter fun y => (y 0).val = b.val

theorem mem_dRow (b : Fin 128) (y : S128x77x768.Idx) : y ∈ dRow b ↔ (y 0).val = b.val := by simp [dRow]
theorem mem_sRow (b : Fin 128) (y : S128x1x768.Idx) : y ∈ sRow b ↔ (y 0).val = b.val := by simp [sRow]
theorem dRow_disj (b b' : Fin 128) (h : b ≠ b') : Disjoint (dRow b) (dRow b') := by
  rw [Finset.disjoint_left]; intro y hy hy'; rw [mem_dRow] at hy hy'; exact h (Fin.ext (by omega))
theorem sRow_disj (b b' : Fin 128) (h : b ≠ b') : Disjoint (sRow b) (sRow b') := by
  rw [Finset.disjoint_left]; intro y hy hy'; rw [mem_sRow] at hy hy'; exact h (Fin.ext (by omega))
theorem dRow_cover : Finset.univ.biUnion dRow = Finset.univ := by
  ext y; simp only [Finset.mem_biUnion, Finset.mem_univ, true_and, iff_true]; exact ⟨y 0, (mem_dRow _ _).mpr rfl⟩
theorem sRow_cover : Finset.univ.biUnion sRow = Finset.univ := by
  ext y; simp only [Finset.mem_biUnion, Finset.mem_univ, true_and, iff_true]; exact ⟨y 0, (mem_sRow _ _).mpr rfl⟩

/-- WHAT THE CALL LEAVES in the result: row `b`'s slot at the position word of `b` is row `b` of the source, every
    other element as found. -/
def scat (x : S128x1x768.Idx → Elt F .f32) (p : S128x1.Idx → BitVec 32) (f : S128x77x768.Idx → Elt F .f32) :
    S128x77x768.Idx → Elt F .f32 := fun y =>
  if (y 1).val = (p (ix2 (y 0) 0)).toNat then x (ix3 (y 0) 0 (y 2)) else f y

/-! ## The two loops' numbers -/

theorem trips1 : k1_t1_loop.trips = 128 := by decide +kernel
theorem trips2 : k1_t2_loop.trips = 128 := by decide +kernel
theorem off1_eq : ∀ k : Fin k1_t1_loop.trips, k1_off1 k = ![k.val, 0] := by decide +kernel
theorem off3_eq : ∀ k : Fin k1_t1_loop.trips, k1_off3 k = ![k.val, 0, 0] := by decide +kernel
theorem iv1_eq : ∀ k : Fin k1_t1_loop.trips, (Scf.iv 0#32 1#32 k).toNat = k.val := by decide +kernel
theorem off2_eq (k : Fin k1_t1_loop.trips) (v : BitVec 32) : k1_off2 k v = ![k.val, v.toNat, 0] := by
  show ![(Scf.iv 0#32 1#32 k).toNat, v.toNat, 0] = _; rw [iv1_eq]
/-- The trip as a row. -/
abbrev rw1 (k : Fin k1_t1_loop.trips) : Fin 128 := ⟨k.val, trips1 ▸ k.isLt⟩

/-- The body's side condition at trip `k` holds of a word below 77. -/
theorem chk_of (k : Fin k1_t1_loop.trips) (v : BitVec 32) (h : v.toNat < 77) : k1_chk1 k v := by
  have hk : k.val < 128 := trips1 ▸ k.isLt
  unfold k1_chk1; rw [off2_eq]; intro a; fin_cases a
  · show k.val + 1 ≤ 128; omega
  · show v.toNat + 1 ≤ 77; omega
  · show 0 + 768 ≤ 768; omega

/-! ## One copy: the ends as printed, and the contents it lands -/

/-- The source of copy `k` and its destination at position word `v`, as the body slices them. -/
def srcM (k : Fin k1_t1_loop.trips) : Memref sig .tc .vmem S1x1x768 .f32 :=
  (Memref.whole cc1_stg1_0 : Memref sig .tc .vmem S128x1x768 .f32).slice (Rect.unit (s := S128x1x768) (k1_off3 k) S1x1x768.size (k1_off3_inb k)) (fun _ => rfl)
def dstM (k : Fin k1_t1_loop.trips) (v : BitVec 32) (h : k1_chk1 k v) : Memref sig .tc .hbm S1x1x768 .f32 :=
  (Memref.whole main_v9 : Memref sig .tc .hbm S128x77x768 .f32).slice (Rect.unit (s := S128x77x768) (k1_off2 k v) S1x1x768.size (k1_off2_inb k v h)) (fun _ => rfl)

theorem srcM_set (k : Fin k1_t1_loop.trips) : (srcM k).view.set = sRow (rw1 k) := by
  have hk : k.val < 128 := trips1 ▸ k.isLt
  refine (View.set_slice_whole _ _).trans ?_
  ext y
  rw [Rect.mem_set_unit, mem_sRow]
  have h1 : (y 1).val < 1 := (y 1).isLt
  have h2 : (y 2).val < 768 := (y 2).isLt
  rw [off3_eq]
  constructor
  · intro H; have a0 : k.val ≤ (y 0).val ∧ (y 0).val < k.val + 1 := H 0; show (y 0).val = k.val; omega
  · intro H a; have H' : (y 0).val = k.val := H; fin_cases a
    · show k.val ≤ (y 0).val ∧ (y 0).val < k.val + 1; omega
    · show 0 ≤ (y 1).val ∧ (y 1).val < 0 + 1; omega
    · show 0 ≤ (y 2).val ∧ (y 2).val < 0 + 768; omega

theorem dstM_sub (k : Fin k1_t1_loop.trips) (v : BitVec 32) (h : k1_chk1 k v) : (dstM k v h).view.set ⊆ dRow (rw1 k) := by
  have e : (dstM k v h).view.set = (Rect.unit (s := S128x77x768) (k1_off2 k v) S1x1x768.size (k1_off2_inb k v h)).set :=
    View.set_slice_whole _ _
  have h' : (Rect.unit (s := S128x77x768) (k1_off2 k v) S1x1x768.size (k1_off2_inb k v h)).set ⊆ dRow (rw1 k) := by
    intro y hy
    rw [Rect.mem_set_unit] at hy
    have a0 := hy 0
    rw [off2_eq] at a0
    have a0' : k.val ≤ (y 0).val ∧ (y 0).val < k.val + 1 := a0
    rw [mem_dRow]; show (y 0).val = k.val; omega
  exact e.le.trans h'

/-- On row `k`, the array with copy `k` landed over it is `scat`. -/
theorem landed (k : Fin k1_t1_loop.trips) (x : S128x1x768.Idx → Elt F .f32) (p : S128x1.Idx → BitVec 32) (f : S128x77x768.Idx → Elt F .f32)
    (v : BitVec 32) (hv : v = p (ix2 (rw1 k) 0)) (h : k1_chk1 k v) (w : S1x1x768.Idx → Elt F .f32)
    (hw : ∀ z, w z = x (ix3 (rw1 k) 0 (z 2))) :
    ∀ y ∈ dRow (rw1 k), (View.write (Elt F) (dstM k v h).view f w Finset.univ : S128x77x768.Idx → Elt F .f32) y = scat x p f y := by
  intro y hy
  rw [mem_dRow] at hy
  have hy0 : y 0 = rw1 k := Fin.ext hy
  have hk : k.val < 128 := trips1 ▸ k.isLt
  rw [show (View.write (Elt F) (dstM k v h).view f w Finset.univ : S128x77x768.Idx → Elt F .f32)
      = updateSlice f w (k1_off2 k v) ⟨rfl, k1_off2_inb k v h⟩ from View.write_whole_slice_unit main_v9 _ _ _ f w]
  unfold updateSlice scat
  rw [hy0, ← hv]
  have h2 : (y 2).val < 768 := (y 2).isLt
  have e0 : k1_off2 k v 0 = k.val := congrFun (off2_eq k v) 0
  have e1 : k1_off2 k v 1 = v.toNat := congrFun (off2_eq k v) 1
  have e2 : k1_off2 k v 2 = 0 := congrFun (off2_eq k v) 2
  by_cases hm : (y 1).val = v.toNat
  · rw [if_pos hm, dif_pos (by
      intro a; fin_cases a
      · show k1_off2 k v 0 ≤ (y 0).val ∧ (y 0).val < k1_off2 k v 0 + 1; rw [e0, hy]; show k.val ≤ k.val ∧ k.val < k.val + 1; omega
      · show k1_off2 k v 1 ≤ (y 1).val ∧ (y 1).val < k1_off2 k v 1 + 1; omega
      · show k1_off2 k v 2 ≤ (y 2).val ∧ (y 2).val < k1_off2 k v 2 + 768; omega), hw]
    congr 1
  · rw [if_neg hm, dif_neg]
    intro H; have a1 : k1_off2 k v 1 ≤ (y 1).val ∧ (y 1).val < k1_off2 k v 1 + 1 := H 1; omega

/-- What copy `k` carries: row `k` of the source. -/
theorem carried (k : Fin k1_t1_loop.trips) (x : S128x1x768.Idx → Elt F .f32) (z : S1x1x768.Idx) :
    (srcM k).view.read (Elt F) x z = x (ix3 (rw1 k) 0 (z 2)) := by
  show x ((Rect.unit (s := S128x1x768) (k1_off3 k) S1x1x768.size (k1_off3_inb k)).emb z) = _
  congr 1
  have h0 : (z 0).val < 1 := (z 0).isLt
  have h1 : (z 1).val < 1 := (z 1).isLt
  funext a; apply Fin.ext; rw [Rect.emb_apply]
  fin_cases a
  · show k1_off3 k 0 + 1 * (z 0).val = k.val; rw [off3_eq]; show k.val + 1 * (z 0).val = _; omega
  · show k1_off3 k 1 + 1 * (z 1).val = 0; rw [off3_eq]; show 0 + 1 * (z 1).val = _; omega
  · show k1_off3 k 2 + 1 * (z 2).val = (z 2).val; rw [off3_eq]; show 0 + 1 * (z 2).val = _; omega

/-! ## The issue loop -/

/-- One copy's credit on the cell. -/
abbrev NN : ℕ := 96
theorem amount_dst (k : Fin k1_t1_loop.trips) (v : BitVec 32) (h : k1_chk1 k v) : (dstM k v h).view.amount (.dma cc1_scratch3.sem) = NN := by
  show RefSig.tileCredit S1x1x768 .f32 = 96; decide +kernel

section Loops

variable (c : Dev nD) (x : S128x1x768.Idx → Elt F .f32) (p : S128x1.Idx → BitVec 32) (f : S128x77x768.Idx → Elt F .f32)

/-- Row `b` of the result as found, of the source, and of the result as left. -/
abbrev dOld (b : Fin 128) : sProp 𝕄 := (c : Thread nD τ).loc main_v9 ↦[dRow b]{fullShare} f
abbrev sOld (b : Fin 128) : sProp 𝕄 := (c : Thread nD τ).loc cc1_stg1_0 ↦[sRow b]{fullShare} x
abbrev dNew (b : Fin 128) : sProp 𝕄 := (c : Thread nD τ).loc main_v9 ↦[dRow b]{fullShare} scat x p f
/-- What copy `b` delivers. -/
def deliv (b : Fin 128) : sProp 𝕄 := iprop(dNew c x p f b ∗ sOld c x b)
instance deliv_storable (b : Fin 128) : BI.Storable (upEmb : UEmb _ 𝕄) (deliv c x p f b) := by
  unfold deliv; infer_instance

/-- The batch: `j` copies issued, `u` units consumed. -/
abbrev batch (j u : ℕ) : sProp 𝕄 :=
  Transfers.Batch (countersEmb (U := UU)) (c : Thread nD τ) (.dma cc1_scratch3.sem) () NN (deliv c x p f) j u

/-- Before trip `k` of the issue loop. -/
def issueAt (k : ℕ) (_ : Unit) : sProp 𝕄 :=
  iprop(batch c x p f k 0 ∗ bigSep (Ring.rangeSet 128 k 128) (dOld c f) ∗ bigSep (Ring.rangeSet 128 k 128) (sOld c x)
    ∗ ((Memref.whole cc1_scratch1 : Memref sig .tc .smem S128x1 .i32).view.loc (c : Thread nD τ) ↦{fullShare} p))

/-- The two loops' regions on the call's operands. -/
abbrev issueBody (k : Fin k1_t1_loop.trips) (acc : Unit) : Prog (TpuEff nD τ sig (Elt F) Λ₀ .tc) Unit :=
  k1_t1_body (F := F) (Memref.whole cc1_stg0_0) (Memref.isWhole_whole _) (Memref.whole main_v9) (Memref.isWhole_whole _)
    (Memref.whole cc1_stg1_0) (Memref.isWhole_whole _) (Memref.whole main_v9) (Memref.isWhole_whole _)
    (Memref.whole cc1_scratch0) (Memref.isWhole_whole _) (Memref.whole cc1_scratch1) (Memref.isWhole_whole _)
    cc1_scratch2 cc1_scratch3 cc1_scratch4 k acc

theorem issue_step (hp : ∀ b : Fin 128, (p (ix2 b 0)).toNat < 77) (k : Fin k1_t1_loop.trips) (acc : Unit) :
    issueAt c x p f k acc ⊢ wp frame (wpE (defs₀ (F := F)) Variants.none (c : Thread nD τ) none) Set.univ (issueBody k acc)
      (issueAt c x p f (k.val + 1)) := by
  have hk : k.val < 128 := trips1 ▸ k.isLt
  unfold issueAt
  rw [Ring.bigSep_rangeSet_head (Φ := dOld c f) (by omega) (by omega), Ring.bigSep_rangeSet_head (Φ := sOld c x) (by omega) (by omega)]
  iintro ⟨HB, ⟨Hd, Hds⟩, ⟨Hs, Hss⟩, Hp⟩
  unfold issueBody k1_t1_body
  sl_exec
  have hv : (issue_step.sl.r (F := F) p k : BitVec 32) = p (ix2 (rw1 k) 0) := by
    unfold issue_step.sl.r
    show p ((Rect.unit (s := S128x1) (k1_off1 k) S1x1.size (k1_off1_inb k)).emb (Shape.Idx.first (s := S1x1) _)) = _
    congr 1
    funext a; apply Fin.ext; rw [Rect.emb_apply]
    fin_cases a
    · show k1_off1 k 0 + 1 * 0 = k.val; rw [off1_eq]; rfl
    · show k1_off1 k 1 + 1 * 0 = 0; rw [off1_eq]; rfl
  generalize (issue_step.sl.r (F := F) p k : BitVec 32) = v at hv ⊢
  have hc : k1_chk1 k v := chk_of k v (hv ▸ hp _)
  sl_exec (disch := exact hc)
  have e1 : (((dstM k v hc).view.loc (c : Thread nD τ) ↦[dRow (rw1 k)]{fullShare}
        ((dstM k v hc).view.write (Elt F) f ((ReadAs.same (Val := Elt F)).apply ((srcM k).view.read (Elt F) x)) Finset.univ)) : sProp 𝕄)
      = dNew c x p f ⟨k.val, hk⟩ :=
    pointsTo_congr (ℓ := (c : Thread nD τ).loc main_v9) (I := dRow (rw1 k)) (g := scat x p f) (landed k x p f v hv hc _ (carried k x))
  have hD : iprop(((dstM k v hc).view.loc (c : Thread nD τ) ↦[dRow (rw1 k)]{fullShare}
        ((dstM k v hc).view.write (Elt F) f ((ReadAs.same (Val := Elt F)).apply ((srcM k).view.read (Elt F) x)) Finset.univ))
      ∗ ((srcM k).view.loc (c : Thread nD τ) ↦[(srcM k).view.set]{fullShare} x) : sProp 𝕄) ⊢ deliv c x p f ⟨k.val, hk⟩ := by
    unfold deliv
    rw [srcM_set k, e1]
    exact .rfl
  have hiss := Transfers.wp_dmaBatch (countersEmb (U := UU)) Variants.none (c : Thread nD τ) none (defs := defs₀ (F := F)) (src := srcM k) (dst := dstM k v hc)
    (hsrc := View.wordExact_bits rfl) (hdst := View.wordExact_bits rfl) (hsem := ⟨Or.inl rfl, trivial⟩)
    (k := fun __r => Pure.pure PUnit.unit)
    (Q := fun x_1 => iprop(batch c x p f (k.val + 1) 0 ∗
        bigSep (Ring.rangeSet 128 (k.val + 1) 128) (dOld c f) ∗
          bigSep (Ring.rangeSet 128 (k.val + 1) 128) (sOld c x) ∗
            View.loc c.tc (Memref.whole cc1_scratch1).view ↦{fullShare} p))
    (fs := x) (fd := f) (q := fullShare) (D := deliv c x p f) (j := k.val) (u := 0) () NN (amount_dst k v hc) (dstM_sub k v hc) hk (Nat.zero_le _) hD
  rw [srcM_set k] at hiss
  iapply hiss $$ [HB Hd Hs]
  · isplitl [Hs]; · iexact Hs
    isplitl [Hd]; · iexact Hd
    iexact HB
  iintro HB
  sl_step
  isplitl [HB]; · iexact HB
  isplitl [Hds]; · iexact Hds
  isplitl [Hss]; · iexact Hss
  iexact Hp

set_option warn.classDefReducibility false in
/-- The issue loop's invariant, found by the run. -/
@[sl_loop] def issueInv (hp : ∀ b : Fin 128, (p (ix2 b 0)).toNat < 77) :
    LoopInv (M := 𝕄) frame (wpE (defs₀ (F := F)) Variants.none (c : Thread nD τ) none) Set.univ k1_t1_loop.lb k1_t1_loop.ub k1_t1_loop.st k1_t1_ok ()
      (issueBody (F := F)) where
  inv := issueAt c x p f
  step := issue_step c x p f hp

/-! ## The drain loop -/

/-- Before trip `k` of the drain loop: the waits so far recorded, and either the batch with `k` copies' units consumed
    or, after the last, the cell back at zero and every delivery. -/
def drainInv (k : ℕ) (_ : Unit) : sProp 𝕄 :=
  iprop(⌜k ≤ 128⌝ ∗ (∃ W, owes (c : Thread nD τ) 0 W)
    ∗ (if k < 128 then batch c x p f 128 (k * NN)
       else iprop(semVal ((c : Thread nD τ), SemLoc.dma cc1_scratch3.sem) 0 ∗ bigSep Finset.univ (deliv c x p f))))

abbrev drainBody (k : Fin k1_t2_loop.trips) (acc : Unit) : Prog (TpuEff nD τ sig (Elt F) Λ₀ .tc) Unit :=
  k1_t2_body (F := F) (Memref.whole cc1_stg0_0) (Memref.isWhole_whole _) (Memref.whole main_v9) (Memref.isWhole_whole _)
    (Memref.whole cc1_stg1_0) (Memref.isWhole_whole _) (Memref.whole main_v9) (Memref.isWhole_whole _)
    (Memref.whole cc1_scratch0) (Memref.isWhole_whole _) (Memref.whole cc1_scratch1) (Memref.isWhole_whole _)
    cc1_scratch2 cc1_scratch3 cc1_scratch4 k acc

theorem drain_step (k : Fin k1_t2_loop.trips) (acc : Unit) :
    drainInv c x p f k acc ⊢ wp frame (wpE (defs₀ (F := F)) Variants.none (c : Thread nD τ) none) Set.univ (drainBody k acc)
      (drainInv c x p f (k.val + 1)) := by
  have hk : k.val < 128 := trips2 ▸ k.isLt
  unfold drainInv
  simp only [if_pos hk]
  rcases Nat.lt_or_ge (k.val + 1) 128 with h1 | h1
  · simp only [if_pos h1]
    iintro ⟨-, ⟨%W, HO⟩, HB⟩
    unfold drainBody k1_t2_body
    sl_exec
    sl_step
    isplitr; · ipureintro; omega
    isplitl [HO]; · iexists _; iexact HO
    rw [show (k.val + 1) * NN = k.val * NN + NN by simp only [NN]; omega]
    iexact HB
  · simp only [if_neg (Nat.not_lt.mpr h1)]
    iintro ⟨-, ⟨%W, HO⟩, HB⟩
    unfold drainBody k1_t2_body
    sl_exec
    sl_step
    isplitr; · ipureintro; omega
    isplitl [HO]; · iexists _; iexact HO
    isplitl [HB]; · iexact HB
    iexact HB_all

end Loops

/-! ## The whole body -/

section Run

variable (c : Dev nD)

abbrev pt (b : Ref sig .tc) (g : b.ty.Contents (Elt F)) : sProp 𝕄 := (Memref.whole b).view.loc (c : Thread nD τ) ↦{fullShare} g

theorem rows_out (x : S128x1x768.Idx → Elt F .f32) (f : S128x77x768.Idx → Elt F .f32) :
    iprop(pt c main_v9 f ∗ pt c cc1_stg1_0 x) ⊢ (iprop(bigSep (Ring.rangeSet 128 0 128) (dOld c f) ∗ bigSep (Ring.rangeSet 128 0 128) (sOld c x)) : sProp 𝕄) := by
  rw [Ring.rangeSet_univ]
  exact BIClass.sep_mono (Entails.of_eq (Ring.pointsTo_blocks (ℓ := (c : Thread nD τ).loc main_v9) (q := fullShare) dRow dRow_disj dRow_cover f))
    (Entails.of_eq (Ring.pointsTo_blocks (ℓ := (c : Thread nD τ).loc cc1_stg1_0) (q := fullShare) sRow sRow_disj sRow_cover x))

theorem rows_in (x : S128x1x768.Idx → Elt F .f32) (p : S128x1.Idx → BitVec 32) (f : S128x77x768.Idx → Elt F .f32) :
    (bigSep Finset.univ (deliv c x p f) : sProp 𝕄) ⊢ iprop(pt c main_v9 (scat x p f) ∗ pt c cc1_stg1_0 x) := by
  unfold deliv
  refine (Entails.of_eq (BI.bigSep_sep _ _ _)).trans ?_
  exact BIClass.sep_mono (Entails.of_eq (Ring.pointsTo_blocks (ℓ := (c : Thread nD τ).loc main_v9) (q := fullShare) dRow dRow_disj dRow_cover (scat x p f)).symm)
    (Entails.of_eq (Ring.pointsTo_blocks (ℓ := (c : Thread nD τ).loc cc1_stg1_0) (q := fullShare) sRow sRow_disj sRow_cover x).symm)

/-- THE BODY: the result array at `scat` of the staged rows and the position words of the staged tokens. -/
theorem scatter_run (tok : S128x77.Idx → BitVec 32) (x : S128x1x768.Idx → Elt F .f32) (f : S128x77x768.Idx → Elt F .f32)
    (g0 : cc1_scratch0.ty.Contents (Elt F)) (g1 : cc1_scratch1.ty.Contents (Elt F))
    (hp : ∀ b : Fin 128, ((k1_pay1 (F := F) tok : S128x1.Idx → BitVec 32) (ix2 b 0)).toNat < 77) (W : Waits sig Unit) (Q : PUnit → sProp 𝕄) :
    iprop(pt c cc1_stg0_0 tok ∗ pt c cc1_stg1_0 x ∗ pt c main_v9 f ∗ pt c cc1_scratch0 g0 ∗ pt c cc1_scratch1 g1
      ∗ semVal ((c : Thread nD τ), SemLoc.dma cc1_scratch2.sem) 0 ∗ semVal ((c : Thread nD τ), SemLoc.dma cc1_scratch3.sem) 0
      ∗ owes (c : Thread nD τ) 0 W
      ∗ (iprop(pt c cc1_stg0_0 tok ∗ pt c cc1_stg1_0 x ∗ pt c main_v9 (scat x (k1_pay1 (F := F) tok) f)
          ∗ (∃ g, pt c cc1_scratch0 g) ∗ (∃ g, pt c cc1_scratch1 g)
          ∗ semVal ((c : Thread nD τ), SemLoc.dma cc1_scratch2.sem) 0 ∗ semVal ((c : Thread nD τ), SemLoc.dma cc1_scratch3.sem) 0
          ∗ ∃ W, owes (c : Thread nD τ) 0 W) -∗ Q ⟨⟩))
    ⊢ wp frame (wpE (defs₀ (F := F)) Variants.none (c : Thread nD τ) none) Set.univ
        (cc1__scatter_body (F := F) (Memref.whole cc1_stg0_0) (Memref.isWhole_whole _) (Memref.whole main_v9) (Memref.isWhole_whole _)
    (Memref.whole cc1_stg1_0) (Memref.isWhole_whole _) (Memref.whole main_v9) (Memref.isWhole_whole _)
    (Memref.whole cc1_scratch0) (Memref.isWhole_whole _) (Memref.whole cc1_scratch1) (Memref.isWhole_whole _)
    cc1_scratch2 cc1_scratch3 cc1_scratch4) Q := by
  simp only [cc1__scatter_body_eq_skeleton]
  iintro ⟨Ht, Hx, Hf, H0, H1, Hc2, Hc3, HO, Hk⟩
  ihave Hr := (rows_out c x f) $$ [Hf Hx]
  · isplitl [Hf] <;> iassumption
  icases Hr with ⟨Hd, Hs⟩
  imod (Transfers.batch_alloc' (Lvl := ℕ) (countersEmb (U := UU)) (c : Thread nD τ) () NN (deliv c x (k1_pay1 (F := F) tok) f)
    (sm := .dma cc1_scratch3.sem) (E := Set.univ)) $$ Hc3 with HB
  sl_unfold [cc1__scatter_body_skel]
  sl_exec
  have hP : ((Memref.whole cc1_scratch1).view.write (Elt F) g1 (scatter_run.sl.dma3 (F := F) tok g0) Finset.univ : S128x1.Idx → BitVec 32)
      = k1_pay1 (F := F) tok := by
    refine (View.write_whole_univ _ _ _).trans ?_
    unfold scatter_run.sl.dma3 scatter_run.sl.H0_1
    refine (read_full_store (Memref.whole cc1_scratch0 : Memref sig .tc .vmem S128x1 .i32).view g0 inb_S128x1_S128x1_0_0 _ []).trans ?_
    exact congrArg (k1_pay1 (F := F)) (View.readAt_full (Val := Elt F) (s := S128x77) (e := .i32) (Memref.whole cc1_stg0_0 : Memref sig .tc .vmem S128x77 .i32).view tok inb_S128x77_S128x77_0_0)
  ihave H1 := (show iprop((Memref.whole cc1_scratch1).view.loc c.tc ↦{fullShare}
      (Memref.whole cc1_scratch1).view.write (Elt F) g1 (scatter_run.sl.dma3 (F := F) tok g0) Finset.univ) ⊢
      (iprop((Memref.whole cc1_scratch1 : Memref sig .tc .smem S128x1 .i32).view.loc c.tc ↦{fullShare} (k1_pay1 (F := F) tok)) : sProp 𝕄)
    from Entails.of_eq (congrArg (fun g : S128x1.Idx → BitVec 32 => (iprop((Memref.whole cc1_scratch1 : Memref sig .tc .smem S128x1 .i32).view.loc c.tc ↦{fullShare} g) : sProp 𝕄)) hP)) $$ H1
  sl_for (issueAt c x (k1_pay1 (F := F) tok) f) $$ [HB Hd Hs H1]
  · intro k acc; exact issue_step c x _ f hp k acc
  · unfold issueAt
    isplitl [HB]; · iexact HB
    isplitl [Hd]; · iexact Hd
    isplitl [Hs]; · iexact Hs
    iexact H1
  iintro %acc HL
  ihave HL' := (show issueAt c x (k1_pay1 (F := F) tok) f k1_t1_loop.trips acc ⊢ iprop(batch c x (k1_pay1 (F := F) tok) f 128 0
      ∗ ((Memref.whole cc1_scratch1 : Memref sig .tc .smem S128x1 .i32).view.loc (c : Thread nD τ) ↦{fullShare} (k1_pay1 (F := F) tok))) from by
    rw [trips1]; unfold issueAt; iintro ⟨HB, -, -, H1⟩
    isplitl [HB] <;> iassumption) $$ HL
  icases HL' with ⟨HB, H1⟩
  sl_for (drainInv c x (k1_pay1 (F := F) tok) f) $$ [HB HO]
  · intro k acc; exact drain_step c x _ f k acc
  · unfold drainInv
    rw [if_pos (by omega)]
    isplitr; · ipureintro; omega
    isplitl [HO]; · iexists _; iexact HO
    rw [show 0 * NN = 0 from rfl]
    iexact HB
  iintro %acc2 HL
  ihave HL' := (show drainInv c x (k1_pay1 (F := F) tok) f k1_t2_loop.trips acc2 ⊢ iprop((∃ W, owes (c : Thread nD τ) 0 W)
      ∗ semVal ((c : Thread nD τ), SemLoc.dma cc1_scratch3.sem) 0 ∗ bigSep Finset.univ (deliv c x (k1_pay1 (F := F) tok) f)) from by
      rw [trips2]; unfold drainInv; rw [if_neg (Nat.lt_irrefl _)]; iintro ⟨-, HO, Hc, Hall⟩
      isplitl [HO]; · iexact HO
      isplitl [Hc] <;> iassumption) $$ HL
  icases HL' with ⟨HO, Hc3, Hall⟩
  ihave Hr := (rows_in c x (k1_pay1 (F := F) tok) f) $$ Hall
  icases Hr with ⟨Hf, Hx⟩
  sl_step
  iapply Hk
  isplitl [Ht]; · iexact Ht
  isplitl [Hx]; · iexact Hx
  isplitl [Hf]; · iexact Hf
  isplitl [H0]; · iexists _; iexact H0
  isplitl [H1]; · iexists _; iexact H1
  isplitl [Hc2]; · iexact Hc2
  isplitl [Hc3]; · iexact Hc3
  iexact HO

end Run

end Cert.KernelIdeal.Hand

end
-- ==== Proof.KernelIdeal.Dense.lean ====
/-
  The first pallas_call's body (`cc0__dense_body`) as three triples, one per case of its two conditionals: the first
  point, the middle points, the last point. Each names what the two carried scratch buffers and the output hold after.
-/
module

public import proofs.«01_k».proof.Proof.KernelIdeal.Scatter

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The condition of the body's first conditional, and of its second. -/
abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1

/-- A whole memref holding `X`, read at its own sizes, gives `X`. -/
theorem readAt_unread {s : Shape} {e : EltTy} (a : Memref sig .tc .vmem s e) (ha : a.IsWhole) {off : Fin s.rank → ℕ}
    (inb : ∀ b, off b + s.size b ≤ s.size b) (X : s.Idx → Elt F e) :
    a.view.readAt (Elt F) (Rect.unit off s.size inb).toLoadRect (ha.unread X) = X :=
  (View.readAt_full (Val := Elt F) (s := s) (e := e) a.view _ inb).trans (ha.read_unread X)

/-- The same of what a store at the view's own sizes left. -/
theorem readCov_full {s : Shape} {e : EltTy} (v : View sig .tc .vmem s e) {off : Fin s.rank → ℕ}
    (inb inb' : ∀ b, off b + s.size b ≤ s.size b) (w : s.Idx → Elt F e) (L : List (View.Piece (Elt F) s e)) :
    v.readCov (⟨Rect.unit off s.size inb, w⟩ :: L) (Rect.unit off s.size inb').toLoadRect = w :=
  (View.readAt_full (Val := Elt F) (s := s) (e := e) v _ inb').trans (read_full_store _ _ _ _ _)

theorem pay1_eq {a0 b0} {a1 b1} {a2 b2} (h0 : a0 = b0) (h1 : a1 = b1) (h2 : a2 = b2) :
    k0_pay1 (F := F) a0 a1 a2 = k0_pay1 b0 b1 b2 := by
  subst h0; subst h1; subst h2; rfl

theorem pay3_eq {a0 b0} {a1 b1} {a2 b2} {a3 b3} {a4 b4} (h0 : a0 = b0) (h1 : a1 = b1) (h2 : a2 = b2) (h3 : a3 = b3) (h4 : a4 = b4) :
    k0_pay3 (F := F) a0 a1 a2 a3 a4 = k0_pay3 b0 b1 b2 b3 b4 := by
  subst h0; subst h1; subst h2; subst h3; subst h4; rfl

theorem pay4_eq {a0 b0} {a1 b1} {a2 b2} {a3 b3} {a4 b4} {a5 b5} {a6 b6} {a7 b7} (h0 : a0 = b0) (h1 : a1 = b1) (h2 : a2 = b2) (h3 : a3 = b3) (h4 : a4 = b4) (h5 : a5 = b5) (h6 : a6 = b6) (h7 : a7 = b7) :
    k0_pay4 (F := F) a0 a1 a2 a3 a4 a5 a6 a7 = k0_pay4 b0 b1 b2 b3 b4 b5 b6 b7 := by
  subst h0; subst h1; subst h2; subst h3; subst h4; subst h5; subst h6; subst h7; rfl

set_option maxHeartbeats 1000000 in
/-- At the first point: the hidden activations are computed into `arg15`, the running sum starts at zero and takes
    its first block; the output is handed back untouched. -/
theorem dense_A (c : Dev nD) (i : grid0.Coords) (arg1 : Memref sig .tc .vmem S128x1 .f32) (harg1 : arg1.IsWhole) (arg2 : Memref sig .tc .vmem S768x3072 .f32) (harg2 : arg2.IsWhole) (arg3 : Memref sig .tc .vmem S1x3072 .f32) (harg3 : arg3.IsWhole) (arg4 : Memref sig .tc .vmem S3072x512 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x512 .f32) (harg9 : arg9.IsWhole) (arg10 : Memref sig .tc .vmem S512x768 .f32) (harg10 : arg10.IsWhole) (arg11 : Memref sig .tc .vmem S1x768 .f32) (harg11 : arg11.IsWhole) (arg12 : Memref sig .tc .vmem S768x768 .f32) (harg12 : arg12.IsWhole) (arg13 : Memref sig .tc .vmem S1x768 .f32) (harg13 : arg13.IsWhole) (arg14 : Memref sig .tc .vmem S128x768 .f32) (harg14 : arg14.IsWhole) (arg15 : Memref sig .tc .vmem S128x3072 .f32) (harg15 : arg15.IsWhole) (arg16 : Memref sig .tc .vmem S128x768 .f32) (harg16 : arg16.IsWhole) (hc0 : cond0 i) (hc1 : ¬cond1 i)
    (x0 : Vec F S128x1 .f32) (x1 : Vec F S768x3072 .f32) (x2 : Vec F S1x3072 .f32) (x3 : Vec F S3072x512 .f32) (x4 : Vec F S1x512 .f32) (x5 : Vec F S512x768 .f32) (x6 : Vec F S1x768 .f32) (x7 : Vec F S1x768 .f32) (x8 : Vec F S768x512 .f32) (x9 : Vec F S512x768 .f32) (x10 : Vec F S1x768 .f32) (x11 : Vec F S768x768 .f32) (x12 : Vec F S1x768 .f32)  (xi : Vec F S128x768 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi ∗ owns (c : Thread nD τ) arg15 fullShare (k0_pay1 x0 x1 x2) ∗ owns (c : Thread nD τ) arg16 fullShare (k0_pay3 (k0_pay1 x0 x1 x2) x3 x4 (k0_pay2 (F := F)) x5)) -∗ K ⟨⟩))
      ⊢ wp frame (wpE (defs₀ (F := F)) Variants.none c none) E (cc0__dense_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__dense_body_eq_skeleton]; unfold cc0__dense_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [HS0]
  · iexists _; isplitr
    swap; · iexact HS0
    ipureintro; (
      refine (read_full_store _ _ _ _ _).trans ?_
      exact pay1_eq (readAt_unread _ _ _ _) (readAt_unread _ _ _ _) (readAt_unread _ _ _ _))
  iexists _; isplitr
  swap; · iexact HS1
  ipureintro; (
      unfold dense_A.sl.HS1_1 dense_A.sl.v3 dense_A.sl.v12
      refine (read_full_store _ _ _ _ _).trans ?_
      exact pay3_eq ((readCov_full _ _ _ _ _).trans (pay1_eq (readAt_unread _ _ _ _) (readAt_unread _ _ _ _) (readAt_unread _ _ _ _))) (readAt_unread _ _ _ _) (readAt_unread _ _ _ _) (readCov_full _ _ _ _ _) (readAt_unread _ _ _ _))

set_option maxHeartbeats 1000000 in
/-- At a middle point: the running sum takes one more block, everything else is as it was. -/
theorem dense_B (c : Dev nD) (i : grid0.Coords) (arg1 : Memref sig .tc .vmem S128x1 .f32) (harg1 : arg1.IsWhole) (arg2 : Memref sig .tc .vmem S768x3072 .f32) (harg2 : arg2.IsWhole) (arg3 : Memref sig .tc .vmem S1x3072 .f32) (harg3 : arg3.IsWhole) (arg4 : Memref sig .tc .vmem S3072x512 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x512 .f32) (harg9 : arg9.IsWhole) (arg10 : Memref sig .tc .vmem S512x768 .f32) (harg10 : arg10.IsWhole) (arg11 : Memref sig .tc .vmem S1x768 .f32) (harg11 : arg11.IsWhole) (arg12 : Memref sig .tc .vmem S768x768 .f32) (harg12 : arg12.IsWhole) (arg13 : Memref sig .tc .vmem S1x768 .f32) (harg13 : arg13.IsWhole) (arg14 : Memref sig .tc .vmem S128x768 .f32) (harg14 : arg14.IsWhole) (arg15 : Memref sig .tc .vmem S128x3072 .f32) (harg15 : arg15.IsWhole) (arg16 : Memref sig .tc .vmem S128x768 .f32) (harg16 : arg16.IsWhole) (hc0 : ¬cond0 i) (hc1 : ¬cond1 i)
    (x0 : Vec F S128x1 .f32) (x1 : Vec F S768x3072 .f32) (x2 : Vec F S1x3072 .f32) (x3 : Vec F S3072x512 .f32) (x4 : Vec F S1x512 .f32) (x5 : Vec F S512x768 .f32) (x6 : Vec F S1x768 .f32) (x7 : Vec F S1x768 .f32) (x8 : Vec F S768x512 .f32) (x9 : Vec F S512x768 .f32) (x10 : Vec F S1x768 .f32) (x11 : Vec F S768x768 .f32) (x12 : Vec F S1x768 .f32) (h : Vec F S128x3072 .f32) (a : Vec F S128x768 .f32) (xi : Vec F S128x768 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi ∗ owns (c : Thread nD τ) arg15 fullShare h ∗ owns (c : Thread nD τ) arg16 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xi ∗ owns (c : Thread nD τ) arg15 fullShare h ∗ owns (c : Thread nD τ) arg16 fullShare (k0_pay3 h x3 x4 a x5)) -∗ K ⟨⟩))
      ⊢ wp frame (wpE (defs₀ (F := F)) Variants.none c none) E (cc0__dense_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__dense_body_eq_skeleton]; unfold cc0__dense_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hfs0; obtain rfl := harg16.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [HS0]
  · iexists _; isplitr; · ipureintro; exact harg15.read_unread _
    iexact HS0
  iexists _; isplitr
  swap; · iexact HS1
  ipureintro; (
      refine (read_full_store _ _ _ _ _).trans ?_
      exact pay3_eq (readAt_unread _ _ _ _) (readAt_unread _ _ _ _) (readAt_unread _ _ _ _) (readAt_unread _ _ _ _) (readAt_unread _ _ _ _))

set_option maxHeartbeats 1000000 in
/-- At the last point: the running sum takes its last block and the output is computed from it. -/
theorem dense_C (c : Dev nD) (i : grid0.Coords) (arg1 : Memref sig .tc .vmem S128x1 .f32) (harg1 : arg1.IsWhole) (arg2 : Memref sig .tc .vmem S768x3072 .f32) (harg2 : arg2.IsWhole) (arg3 : Memref sig .tc .vmem S1x3072 .f32) (harg3 : arg3.IsWhole) (arg4 : Memref sig .tc .vmem S3072x512 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S768x512 .f32) (harg9 : arg9.IsWhole) (arg10 : Memref sig .tc .vmem S512x768 .f32) (harg10 : arg10.IsWhole) (arg11 : Memref sig .tc .vmem S1x768 .f32) (harg11 : arg11.IsWhole) (arg12 : Memref sig .tc .vmem S768x768 .f32) (harg12 : arg12.IsWhole) (arg13 : Memref sig .tc .vmem S1x768 .f32) (harg13 : arg13.IsWhole) (arg14 : Memref sig .tc .vmem S128x768 .f32) (harg14 : arg14.IsWhole) (arg15 : Memref sig .tc .vmem S128x3072 .f32) (harg15 : arg15.IsWhole) (arg16 : Memref sig .tc .vmem S128x768 .f32) (harg16 : arg16.IsWhole) (hc0 : ¬cond0 i) (hc1 : cond1 i)
    (x0 : Vec F S128x1 .f32) (x1 : Vec F S768x3072 .f32) (x2 : Vec F S1x3072 .f32) (x3 : Vec F S3072x512 .f32) (x4 : Vec F S1x512 .f32) (x5 : Vec F S512x768 .f32) (x6 : Vec F S1x768 .f32) (x7 : Vec F S1x768 .f32) (x8 : Vec F S768x512 .f32) (x9 : Vec F S512x768 .f32) (x10 : Vec F S1x768 .f32) (x11 : Vec F S768x768 .f32) (x12 : Vec F S1x768 .f32) (h : Vec F S128x3072 .f32) (a : Vec F S128x768 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare h ∗ owns (c : Thread nD τ) arg16 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (k0_pay4 (k0_pay3 h x3 x4 a x5) x6 x7 x8 x9 x10 x11 x12) ∗ owns (c : Thread nD τ) arg15 fullShare h ∗ owns (c : Thread nD τ) arg16 fullShare (k0_pay3 h x3 x4 a x5)) -∗ K ⟨⟩))
      ⊢ wp frame (wpE (defs₀ (F := F)) Variants.none c none) E (cc0__dense_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__dense_body_eq_skeleton]; unfold cc0__dense_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg15.eq_unread hfs0; obtain rfl := harg16.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr
    swap; · iexact H13
    ipureintro; (
      unfold dense_C.sl.v22 dense_C.sl.HS1_1
      refine (read_full_store _ _ _ _ _).trans ?_
      exact pay4_eq ((readCov_full _ _ _ _ _).trans (pay3_eq (readAt_unread _ _ _ _) (readAt_unread _ _ _ _) (readAt_unread _ _ _ _) (readAt_unread _ _ _ _) (readAt_unread _ _ _ _))) (readAt_unread _ _ _ _) (readAt_unread _ _ _ _) (readAt_unread _ _ _ _) (readAt_unread _ _ _ _) (readAt_unread _ _ _ _) (readAt_unread _ _ _ _) (readAt_unread _ _ _ _))
  isplitl [HS0]
  · iexists _; isplitr; · ipureintro; exact harg15.read_unread _
    iexact HS0
  iexists _; isplitr
  swap; · iexact HS1
  ipureintro; (
      unfold dense_C.sl.HS1_1
      refine (read_full_store _ _ _ _ _).trans ?_
      exact pay3_eq (readAt_unread _ _ _ _) (readAt_unread _ _ _ _) (readAt_unread _ _ _ _) (readAt_unread _ _ _ _) (readAt_unread _ _ _ _))

end Cert.KernelIdeal.Hand

end
-- ==== Proof.KernelIdeal.DenseDat.lean ====
/-
  The first pallas_call as a pipelined region: what its carried scratch holds after each point (the hidden activations,
  computed once, and the running sum over the blocks of the contraction), its proof data, and the body obligation.
  Stated at any contents `V` of the core's buffers when the region is entered.
-/
module

public import proofs.«01_k».proof.Proof.KernelIdeal.Dense
public import Idealize.ShloMosaic.Lib.Pipeline.FrameBody
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two conditionals and the output's idleness, by the point -/

theorem cond0_iff (t : Fin cfg0.N) : cond0 (grid0.coords t) ↔ t.val = 0 := by
  have ht : t.val < 6 := Nat.lt_of_lt_of_eq t.isLt N_0
  have e0 : (grid0.coords t 0).val = t.val / 1 % 6 := Pipeline.Grid.coords_val t 0 (by decide) rfl
  have : cond0 (grid0.coords t) ↔ t.val % 6 = 0 := by simp only [cond0, e0]; word_cmp
  rw [this]; omega

theorem cond1_iff (t : Fin cfg0.N) : cond1 (grid0.coords t) ↔ t.val = 5 := by
  have ht : t.val < 6 := Nat.lt_of_lt_of_eq t.isLt N_0
  have e0 : (grid0.coords t 0).val = t.val / 1 % 6 := Pipeline.Grid.coords_val t 0 (by decide) rfl
  have : cond1 (grid0.coords t) ↔ t.val % 6 = 5 := by simp only [cond1, k0_cond2, e0]; word_cmp
  rw [this]; omega

theorem idle_out : ∀ t : Fin cfg0.N, t.val ≠ 5 → cfg0.idle 13 (grid0.coords t) = true := by decide +kernel
theorem noflush_out : ∀ t : Fin cfg0.N, t.val ≠ 5 → (cfg0.win 13).flush t = false := by decide +kernel
theorem live_out : ∀ t : Fin cfg0.N, t.val = 5 → cfg0.idle 13 (grid0.coords t) = false := by decide +kernel

section Region
variable (V : (c : Dev nD) → (b : Ref sig .tc) → Buf (Elt F) ((c : Thread nD τ).loc b))

/-- Window `w`'s block at point `t`, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N_pos : 0 < cfg0.N := by rw [show cfg0.N = 6 from N_0]; decide

/-- The hidden activations: computed at the first point, held in `cc0_scratch0` from then on. -/
def hid (c : Dev nD) : Vec F S128x3072 .f32 := k0_pay1 (iblk0 V c 0 ⟨0, N_pos⟩) (iblk0 V c 1 ⟨0, N_pos⟩) (iblk0 V c 2 ⟨0, N_pos⟩)

/-- The running sum in `cc0_scratch1` after point `n`. -/
def acc (c : Dev nD) : (n : ℕ) → n < cfg0.N → Vec F S128x768 .f32
  | 0, h => k0_pay3 (hid V c) (iblk0 V c 3 ⟨0, h⟩) (iblk0 V c 4 ⟨0, h⟩) (k0_pay2 (F := F)) (iblk0 V c 5 ⟨0, h⟩)
  | n + 1, h => k0_pay3 (hid V c) (iblk0 V c 3 ⟨n + 1, h⟩) (iblk0 V c 4 ⟨n + 1, h⟩) (acc c n (Nat.lt_of_succ_lt h)) (iblk0 V c 5 ⟨n + 1, h⟩)

/-- What the last point stores, from the running sum after it. -/
def outv (c : Dev nD) (t : Fin cfg0.N) : Vec F S128x768 .f32 :=
  k0_pay4 (acc V c t.val t.isLt) (iblk0 V c 6 t) (iblk0 V c 7 t) (iblk0 V c 8 t) (iblk0 V c 9 t) (iblk0 V c 10 t) (iblk0 V c 11 t) (iblk0 V c 12 t)

/-- The second pallas_call's scoped buffers, which this region does not touch. -/
def rest4 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

abbrev sc0 : Memref sig .tc .vmem S128x3072 .f32 := Memref.whole cc0_scratch0
abbrev sc1 : Memref sig .tc .vmem S128x768 .f32 := Memref.whole cc0_scratch1

theorem PhiA_eq (c : Dev nD) : (Pipeline.ΦA spec0 c : sProp 𝕄)
    = iprop(iprop((∃ d, owns (c : Thread nD τ) sc0 fullShare d) ∗ (∃ d, owns (c : Thread nD τ) sc1 fullShare d) ∗ rest4 c) ∗ (∃ r, prngReg c r)) := by
  unfold Pipeline.ΦA rest4; rw [scopedRest0_eq]; simp only [sc0, sc1, owns_whole]; try rfl

/-- The invariant after `n` points: the carried scratch at the contents named above. -/
def PhiS (c : Dev nD) : (n : ℕ) → n ≤ cfg0.N → sProp 𝕄
  | 0, _ => Pipeline.ΦA spec0 c
  | n + 1, h => iprop(iprop(owns (c : Thread nD τ) sc0 fullShare (hid V c) ∗ owns (c : Thread nD τ) sc1 fullShare (acc V c n h) ∗ rest4 c) ∗ (∃ r, prngReg c r))

/-- The region's proof data. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outv V c t
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi_cast (c : Dev nD) (t : Fin cfg0.N) : (dat0 V c).Φ t.castSucc = PhiS V c t.val (Nat.le_of_lt t.isLt) := by
  dsimp only [dat0]; exact Pipeline.Dat.Φ_castSucc (PhiS V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = outv V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)

abbrev ms0 (t : Fin cfg0.N) : Memref sig .tc .vmem S128x1 .f32 := win0_0.stage (cfg0.slots t 0)
abbrev ms1 (t : Fin cfg0.N) : Memref sig .tc .vmem S768x3072 .f32 := win0_1.stage (cfg0.slots t 1)
abbrev ms2 (t : Fin cfg0.N) : Memref sig .tc .vmem S1x3072 .f32 := win0_2.stage (cfg0.slots t 2)
abbrev ms3 (t : Fin cfg0.N) : Memref sig .tc .vmem S3072x512 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S512x768 .f32 := win0_5.stage (cfg0.slots t 5)
abbrev ms6 (t : Fin cfg0.N) : Memref sig .tc .vmem S1x768 .f32 := win0_6.stage (cfg0.slots t 6)
abbrev ms7 (t : Fin cfg0.N) : Memref sig .tc .vmem S1x768 .f32 := win0_7.stage (cfg0.slots t 7)
abbrev ms8 (t : Fin cfg0.N) : Memref sig .tc .vmem S768x512 .f32 := win0_8.stage (cfg0.slots t 8)
abbrev ms9 (t : Fin cfg0.N) : Memref sig .tc .vmem S512x768 .f32 := win0_9.stage (cfg0.slots t 9)
abbrev ms10 (t : Fin cfg0.N) : Memref sig .tc .vmem S1x768 .f32 := win0_10.stage (cfg0.slots t 10)
abbrev ms11 (t : Fin cfg0.N) : Memref sig .tc .vmem S768x768 .f32 := win0_11.stage (cfg0.slots t 11)
abbrev ms12 (t : Fin cfg0.N) : Memref sig .tc .vmem S1x768 .f32 := win0_12.stage (cfg0.slots t 12)
abbrev ms13 (t : Fin cfg0.N) : Memref sig .tc .vmem S128x768 .f32 := win0_13.stage (cfg0.slots t 13)

/-- What the body is called with at point `t`, and what it returns, the windows one by one. -/
def bodyPre0 (c : Dev nD) (t : Fin cfg0.N) : sProp 𝕄 :=
  iprop((dat0 V c).Φ t.castSucc ∗ (dat0 V c).owesAt () t.castSucc ∗ (∃ d, owns (c : Thread nD τ) (ms0 t) fullShare ((dat0 V c).before 0 t d)) ∗ (∃ d, owns (c : Thread nD τ) (ms1 t) fullShare ((dat0 V c).before 1 t d)) ∗ (∃ d, owns (c : Thread nD τ) (ms2 t) fullShare ((dat0 V c).before 2 t d)) ∗ (∃ d, owns (c : Thread nD τ) (ms3 t) fullShare ((dat0 V c).before 3 t d)) ∗ (∃ d, owns (c : Thread nD τ) (ms4 t) fullShare ((dat0 V c).before 4 t d)) ∗ (∃ d, owns (c : Thread nD τ) (ms5 t) fullShare ((dat0 V c).before 5 t d)) ∗ (∃ d, owns (c : Thread nD τ) (ms6 t) fullShare ((dat0 V c).before 6 t d)) ∗ (∃ d, owns (c : Thread nD τ) (ms7 t) fullShare ((dat0 V c).before 7 t d)) ∗ (∃ d, owns (c : Thread nD τ) (ms8 t) fullShare ((dat0 V c).before 8 t d)) ∗ (∃ d, owns (c : Thread nD τ) (ms9 t) fullShare ((dat0 V c).before 9 t d)) ∗ (∃ d, owns (c : Thread nD τ) (ms10 t) fullShare ((dat0 V c).before 10 t d)) ∗ (∃ d, owns (c : Thread nD τ) (ms11 t) fullShare ((dat0 V c).before 11 t d)) ∗ (∃ d, owns (c : Thread nD τ) (ms12 t) fullShare ((dat0 V c).before 12 t d)) ∗ (∃ d, owns (c : Thread nD τ) (ms13 t) fullShare ((dat0 V c).before 13 t d)))
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t ∗ (dat0 V c).leavesExact 10 t ∗ (dat0 V c).leavesExact 11 t ∗ (dat0 V c).leavesExact 12 t ∗ (dat0 V c).leavesExact 13 t)

theorem leaves0_0 (c : Dev nD) (t : Fin cfg0.N) : (dat0 V c).leavesExact 0 t = owns (c : Thread nD τ) (ms0 t) fullShare (iblk0 V c 0 t) := by
  rw [← after0_0]
theorem leaves0_1 (c : Dev nD) (t : Fin cfg0.N) : (dat0 V c).leavesExact 1 t = owns (c : Thread nD τ) (ms1 t) fullShare (iblk0 V c 1 t) := by
  rw [← after0_1]
theorem leaves0_2 (c : Dev nD) (t : Fin cfg0.N) : (dat0 V c).leavesExact 2 t = owns (c : Thread nD τ) (ms2 t) fullShare (iblk0 V c 2 t) := by
  rw [← after0_2]
theorem leaves0_3 (c : Dev nD) (t : Fin cfg0.N) : (dat0 V c).leavesExact 3 t = owns (c : Thread nD τ) (ms3 t) fullShare (iblk0 V c 3 t) := by
  rw [← after0_3]
theorem leaves0_4 (c : Dev nD) (t : Fin cfg0.N) : (dat0 V c).leavesExact 4 t = owns (c : Thread nD τ) (ms4 t) fullShare (iblk0 V c 4 t) := by
  rw [← after0_4]
theorem leaves0_5 (c : Dev nD) (t : Fin cfg0.N) : (dat0 V c).leavesExact 5 t = owns (c : Thread nD τ) (ms5 t) fullShare (iblk0 V c 5 t) := by
  rw [← after0_5]
theorem leaves0_6 (c : Dev nD) (t : Fin cfg0.N) : (dat0 V c).leavesExact 6 t = owns (c : Thread nD τ) (ms6 t) fullShare (iblk0 V c 6 t) := by
  rw [← after0_6]
theorem leaves0_7 (c : Dev nD) (t : Fin cfg0.N) : (dat0 V c).leavesExact 7 t = owns (c : Thread nD τ) (ms7 t) fullShare (iblk0 V c 7 t) := by
  rw [← after0_7]
theorem leaves0_8 (c : Dev nD) (t : Fin cfg0.N) : (dat0 V c).leavesExact 8 t = owns (c : Thread nD τ) (ms8 t) fullShare (iblk0 V c 8 t) := by
  rw [← after0_8]
theorem leaves0_9 (c : Dev nD) (t : Fin cfg0.N) : (dat0 V c).leavesExact 9 t = owns (c : Thread nD τ) (ms9 t) fullShare (iblk0 V c 9 t) := by
  rw [← after0_9]
theorem leaves0_10 (c : Dev nD) (t : Fin cfg0.N) : (dat0 V c).leavesExact 10 t = owns (c : Thread nD τ) (ms10 t) fullShare (iblk0 V c 10 t) := by
  rw [← after0_10]
theorem leaves0_11 (c : Dev nD) (t : Fin cfg0.N) : (dat0 V c).leavesExact 11 t = owns (c : Thread nD τ) (ms11 t) fullShare (iblk0 V c 11 t) := by
  rw [← after0_11]
theorem leaves0_12 (c : Dev nD) (t : Fin cfg0.N) : (dat0 V c).leavesExact 12 t = owns (c : Thread nD τ) (ms12 t) fullShare (iblk0 V c 12 t) := by
  rw [← after0_12]

set_option maxHeartbeats 800000 in
theorem sound_A (c : Dev nD) (t : Fin cfg0.N) (hz : t.val = 0) :
    bodyPre0 V c t ⊢ wp frame (wpE (defs₀ (F := F)) Variants.none c none) Set.univ (bodyAt0 t) (fun _ => bodyPost0 V c t) := by
  have h5 : t.val ≠ 5 := by omega
  have hs : (dat0 V c).Φ t.succ = PhiS V c (t.val + 1) t.isLt := rfl
  have e0 : PhiS V c t.val (Nat.le_of_lt t.isLt) = Pipeline.ΦA spec0 c := by
    obtain ⟨v, hv⟩ := t; obtain rfl : v = 0 := hz; rfl
  have e1 : PhiS V c (t.val + 1) t.isLt = iprop(iprop(owns (c : Thread nD τ) sc0 fullShare (k0_pay1 (iblk0 V c 0 t) (iblk0 V c 1 t) (iblk0 V c 2 t)) ∗ owns (c : Thread nD τ) sc1 fullShare (k0_pay3 (k0_pay1 (iblk0 V c 0 t) (iblk0 V c 1 t) (iblk0 V c 2 t)) (iblk0 V c 3 t) (iblk0 V c 4 t) (k0_pay2 (F := F)) (iblk0 V c 5 t)) ∗ rest4 c) ∗ (∃ r, prngReg c r)) := by
    obtain ⟨v, hv⟩ := t; obtain rfl : v = 0 := hz; rfl
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl, hs, e1, Phi_cast, e0, leaves0_0, leaves0_1, leaves0_2, leaves0_3, leaves0_4, leaves0_5, leaves0_6, leaves0_7, leaves0_8, leaves0_9, leaves0_10, leaves0_11, leaves0_12]
  rw [Dat.leavesExact_idle (dat0 V c) 13 t (idle_out t h5) (noflush_out t h5)]
  rw [PhiA_eq]
  iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (dense_A c (grid0.coords t) _ _ _ _ _ _ _ _ _ _ _ _ _ _ _ _ _ _ _ _ _ _ _ _ _ _ _ _ _ _ _ _ ((cond0_iff t).mpr hz) (fun h => h5 ((cond1_iff t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hr Hg]
  · isplitl [HS0 HS1 Hr]
    · isplitl [HS0]; · iexact HS0
      isplitl [HS1]; · iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 800000 in
theorem sound_B (c : Dev nD) (t : Fin cfg0.N) (n : ℕ) (hn : t.val = n + 1) (h5 : t.val ≠ 5) :
    bodyPre0 V c t ⊢ wp frame (wpE (defs₀ (F := F)) Variants.none c none) Set.univ (bodyAt0 t) (fun _ => bodyPost0 V c t) := by
  have hs : (dat0 V c).Φ t.succ = PhiS V c (t.val + 1) t.isLt := rfl
  have hn' : n < cfg0.N := by have := t.isLt; omega
  have e0 : PhiS V c t.val (Nat.le_of_lt t.isLt) = iprop(iprop(owns (c : Thread nD τ) sc0 fullShare (hid V c) ∗ owns (c : Thread nD τ) sc1 fullShare (acc V c n hn') ∗ rest4 c) ∗ (∃ r, prngReg c r)) := by
    obtain ⟨v, hv⟩ := t; obtain rfl : v = n + 1 := hn; rfl
  have ea : acc V c t.val t.isLt = k0_pay3 (hid V c) (iblk0 V c 3 t) (iblk0 V c 4 t) (acc V c n hn') (iblk0 V c 5 t) := by
    obtain ⟨v, hv⟩ := t; obtain rfl : v = n + 1 := hn; rfl
  have e1 : PhiS V c (t.val + 1) t.isLt = iprop(iprop(owns (c : Thread nD τ) sc0 fullShare (hid V c) ∗ owns (c : Thread nD τ) sc1 fullShare (k0_pay3 (hid V c) (iblk0 V c 3 t) (iblk0 V c 4 t) (acc V c n hn') (iblk0 V c 5 t)) ∗ rest4 c) ∗ (∃ r, prngReg c r)) := by
    rw [← ea]; rfl
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl, hs, e1, Phi_cast, e0, leaves0_0, leaves0_1, leaves0_2, leaves0_3, leaves0_4, leaves0_5, leaves0_6, leaves0_7, leaves0_8, leaves0_9, leaves0_10, leaves0_11, leaves0_12]
  rw [Dat.leavesExact_idle (dat0 V c) 13 t (idle_out t h5) (noflush_out t h5)]
  iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (dense_B c (grid0.coords t) _ _ _ _ _ _ _ _ _ _ _ _ _ _ _ _ _ _ _ _ _ _ _ _ _ _ _ _ _ _ _ _ (fun h => by have := (cond0_iff t).mp h; omega) (fun h => h5 ((cond1_iff t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (hid V c) (acc V c n hn') _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hr Hg]
  · isplitl [HS0 HS1 Hr]
    · isplitl [HS0]; · iexact HS0
      isplitl [HS1]; · iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 800000 in
theorem sound_C (c : Dev nD) (t : Fin cfg0.N) (n : ℕ) (hn : t.val = n + 1) (h5 : t.val = 5) :
    bodyPre0 V c t ⊢ wp frame (wpE (defs₀ (F := F)) Variants.none c none) Set.univ (bodyAt0 t) (fun _ => bodyPost0 V c t) := by
  have hs : (dat0 V c).Φ t.succ = PhiS V c (t.val + 1) t.isLt := rfl
  have hn' : n < cfg0.N := by have := t.isLt; omega
  have e0 : PhiS V c t.val (Nat.le_of_lt t.isLt) = iprop(iprop(owns (c : Thread nD τ) sc0 fullShare (hid V c) ∗ owns (c : Thread nD τ) sc1 fullShare (acc V c n hn') ∗ rest4 c) ∗ (∃ r, prngReg c r)) := by
    obtain ⟨v, hv⟩ := t; obtain rfl : v = n + 1 := hn; rfl
  have ea : acc V c t.val t.isLt = k0_pay3 (hid V c) (iblk0 V c 3 t) (iblk0 V c 4 t) (acc V c n hn') (iblk0 V c 5 t) := by
    obtain ⟨v, hv⟩ := t; obtain rfl : v = n + 1 := hn; rfl
  have e1 : PhiS V c (t.val + 1) t.isLt = iprop(iprop(owns (c : Thread nD τ) sc0 fullShare (hid V c) ∗ owns (c : Thread nD τ) sc1 fullShare (k0_pay3 (hid V c) (iblk0 V c 3 t) (iblk0 V c 4 t) (acc V c n hn') (iblk0 V c 5 t)) ∗ rest4 c) ∗ (∃ r, prngReg c r)) := by
    rw [← ea]; rfl
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl, hs, e1, Phi_cast, e0, leaves0_0, leaves0_1, leaves0_2, leaves0_3, leaves0_4, leaves0_5, leaves0_6, leaves0_7, leaves0_8, leaves0_9, leaves0_10, leaves0_11, leaves0_12]
  rw [show (dat0 V c).leavesExact 13 t = owns (c : Thread nD τ) (ms13 t) fullShare (k0_pay4 (k0_pay3 (hid V c) (iblk0 V c 3 t) (iblk0 V c 4 t) (acc V c n hn') (iblk0 V c 5 t)) (iblk0 V c 6 t) (iblk0 V c 7 t) (iblk0 V c 8 t) (iblk0 V c 9 t) (iblk0 V c 10 t) (iblk0 V c 11 t) (iblk0 V c 12 t)) from by
    rw [← ea]; show _ = owns (c : Thread nD τ) (ms13 t) fullShare (outv V c t); rw [← after0_13]; unfold Dat.leavesExact; rw [live_out t h5]]
  iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (dense_C c (grid0.coords t) _ _ _ _ _ _ _ _ _ _ _ _ _ _ _ _ _ _ _ _ _ _ _ _ _ _ _ _ _ _ _ _ (fun h => by have := (cond0_iff t).mp h; omega) ((cond1_iff t).mpr h5) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (hid V c) (acc V c n hn') Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hr Hg]
  · isplitl [HS0 HS1 Hr]
    · isplitl [HS0]; · iexact HS0
      isplitl [HS1]; · iexact HS1
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sound_body0 (c : Dev nD) (t : Fin cfg0.N) :
    bodyPre0 V c t ⊢ wp frame (wpE (defs₀ (F := F)) Variants.none c none) Set.univ (bodyAt0 t) (fun _ => bodyPost0 V c t) := by
  rcases Nat.eq_zero_or_pos t.val with hz | hp
  · exact sound_A V c t hz
  · by_cases h5 : t.val = 5
    · exact sound_C V c t (t.val - 1) (by omega) h5
    · exact sound_B V c t (t.val - 1) (by omega) h5

theorem defs_row0 (t : Fin cfg0.N) : defs₀ (F := F) .tc cfg0.body (cfg0.bodyArgs t (cfg0.slots t)) = bodyAt0 t := by
  unfold defs₀; rw [Defs.onTc_tc]

/-- The body obligation of the first region. -/
theorem body_obligation0 (c : Dev nD) : BodyObligation (dat0 (F := F) V c) (defs₀ (F := F)) Variants.none () Set.univ := fun t => by
  rw [bigSep_W0, bigSep_W0, defs_row0]
  exact triple_restated (sound_body0 V c t) rfl .rfl fun _ => .rfl

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  have h5 : 5 < cfg0.N := by rw [show cfg0.N = 6 from N_0]; decide
  have e : (dat0 V c).Φ (Fin.last cfg0.N) = iprop(iprop(owns (c : Thread nD τ) sc0 fullShare (hid V c) ∗ owns (c : Thread nD τ) sc1 fullShare (acc V c 5 h5) ∗ rest4 c) ∗ (∃ r, prngReg c r)) := by
    show PhiS V c (Fin.last cfg0.N).val _ = PhiS V c (5 + 1) h5
    congr 1
  rw [e, PhiA_eq]
  iintro ⟨⟨HS0, HS1, Hr⟩, Hg⟩
  isplitl [HS0 HS1 Hr]
  · isplitl [HS0]; · iexists _; iexact HS0
    isplitl [HS1]; · iexists _; iexact HS1
    iexact Hr
  iexact Hg

end Region

end Cert.KernelIdeal.Hand

end
-- ==== Proof.KernelIdeal.ScatterDat.lean ====
/-
  The second pallas_call as a pipelined region: both operands staged whole, the result buffer and the call's own DMA
  semaphores in the invariant. Stated at any contents `V` of the core's buffers when the region is entered, given that
  every position word the call computes is a slot of its row.
-/
module

public import proofs.«01_k».proof.Proof.KernelIdeal.Scatter
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- The call's own semaphores. -/
abbrev osem1 : Fin 3 → SemLoc sig := fun | 0 => .dma cc1_scratch2.sem | 1 => .dma cc1_scratch3.sem | 2 => .dma cc1_scratch4.sem
abbrev sems1 (c : Dev nD) : sProp 𝕄 :=
  iprop(semVal ((c : Thread nD τ), osem1 0) 0 ∗ semVal ((c : Thread nD τ), osem1 1) 0 ∗ semVal ((c : Thread nD τ), osem1 2) 0)
theorem ownSemFacts1 : Pipeline.OwnSemFacts spec1 osem1 := by decide
omit [FloatOps F] in
theorem ownSems1_eq (c : Dev nD) :
    (Pipeline.ownSems0 (Ix := Unit) (Name := ℕ) (U := UU) (Lvl := ℕ) (Val := Elt F) (τ := τ) osem1 c : sProp 𝕄) = sems1 c :=
  Pipeline.ownSems0_eq_of_list c osem1 [0, 1, 2] (by decide) (by decide)

section Region
variable (V : (c : Dev nD) → (b : Ref sig .tc) → Buf (Elt F) ((c : Thread nD τ).loc b))

/-- Window `w`'s block, of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The staged token rows, and the staged rows to insert. -/
def tokB (c : Dev nD) : S128x77.Idx → BitVec 32 := iblk1 V c 0 t1_0
def rowB (c : Dev nD) : S128x1x768.Idx → Elt F .f32 := iblk1 V c 1 t1_0

/-- What the region leaves in the result. -/
def scatOut (c : Dev nD) : S128x77x768.Idx → Elt F .f32 := scat (rowB V c) (k1_pay1 (F := F) (tokB V c)) (V c main_v9)

/-- The invariant with the result at `f`. -/
def Phi1 (c : Dev nD) (f : main_v9.ty.Contents (Elt F)) : sProp 𝕄 :=
  iprop(pt c main_v9 f ∗ sems1 c ∗ Pipeline.scopedRest (Ix := Unit) (Name := ℕ) (U := UU) (Lvl := ℕ) (Val := Elt F) spec1 c)

/-- The region's proof data. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
  Φ t := if t.val = 0 then Phi1 c (V c main_v9) else Phi1 c (scatOut V c)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem Phi1_first (c : Dev nD) : (dat1 V c).Φ 0 = Phi1 c (V c main_v9) := by dsimp only [dat1]; exact if_pos rfl
theorem Phi1_last (c : Dev nD) : (dat1 V c).Φ (Fin.last cfg1.N) = Phi1 c (scatOut V c) := by
  dsimp only [dat1]; exact if_neg (by rw [Fin.val_last, show cfg1.N = 1 from N_1]; decide)

/-- The body obligation of the second region. -/
theorem body_obligation1 (c : Dev nD)
    (hp : ∀ b : Fin 128, ((k1_pay1 (F := F) (tokB V c) : S128x1.Idx → BitVec 32) (ix2 b 0)).toNat < 77) :
    BodyObligation (dat1 (F := F) V c) (defs₀ (F := F)) Variants.none () Set.univ := fun t => by
  obtain rfl := fin_N1 t
  rw [bigSep_W1, bigSep_W1]
  simp only [owns_whole_eq]
  rw [show (dat1 V c).Φ t1_0.castSucc = Phi1 c (V c main_v9) from Phi1_first V c,
    show (dat1 V c).Φ t1_0.succ = Phi1 c (scatOut V c) from Phi1_last V c]
  unfold Phi1 Dat.owesAt Pipeline.owesWithin; rw [scopedRest1_eq]
  rw [show (dat1 V c).owed t1_0.castSucc = 0 from rfl, show (dat1 V c).owed t1_0.succ = 0 from rfl]
  iintro ⟨⟨H9, ⟨Hs0, Hs1, Hs2⟩, HB0, HB1, HB2, HB3, HB4, HB5, HB6, HB7, HB8, HB9, HB10, HB11, HB12, HB13, HB14, HB15, HB16, HB17, HB18, ⟨%g0, HG0⟩, ⟨%g1, HG1⟩⟩, ⟨%W, %hW, HO⟩, ⟨%d0, %f0, %hf0, H0⟩, ⟨%d1, %f1, %hf1, H1⟩⟩
  rw [before1_0] at hf0; rw [before1_1] at hf1
  subst hf0; subst hf1
  iapply (scatter_run c (tokB V c) (rowB V c) (V c main_v9) g0 g1 hp W)
  isplitl [H0]; · iexact H0
  isplitl [H1]; · iexact H1
  isplitl [H9]; · iexact H9
  isplitl [HG0]; · iexact HG0
  isplitl [HG1]; · iexact HG1
  isplitl [Hs0]; · iexact Hs0
  isplitl [Hs1]; · iexact Hs1
  isplitl [HO]; · iexact HO
  iintro ⟨H0, H1, H9, HG0, HG1, Hs0, Hs1, ⟨%W', HO⟩⟩
  isplitl [H9 Hs0 Hs1 Hs2 HB0 HB1 HB2 HB3 HB4 HB5 HB6 HB7 HB8 HB9 HB10 HB11 HB12 HB13 HB14 HB15 HB16 HB17 HB18 HG0 HG1]
  · isplitl [H9]; · iexact H9
    isplitl [Hs0 Hs1 Hs2]
    · isplitl [Hs0]; · iexact Hs0
      isplitl [Hs1]; · iexact Hs1
      iexact Hs2
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    isplitl [HB17]; · iexact HB17
    isplitl [HB18]; · iexact HB18
    isplitl [HG0]; · iexact HG0
    iexact HG1
  isplitl [HO]
  · iexists W'; isplitr; · ipureintro; exact fun _ _ => Or.inl trivial
    iexact HO
  isplitl [H0]
  · iexists _; isplitr; swap; (· iexact H0); ipureintro; rw [after1_0]; rfl
  iexists _; isplitr; swap; (· iexact H1); ipureintro; rw [after1_1]; rfl

end Region

end Cert.KernelIdeal.Hand

end
-- ==== Proof.KernelIdeal.Run.lean ====
/-
  The launch: @main is a host stretch, the dense region, a host stretch, the scatter region. The core's buffers at each
  boundary are named in order, and the run ends with every unscoped buffer at the last of them: the arguments as
  launched, the result at `scatOut`, every semaphore counter at zero. The one hypothesis is that the position word of each
  row, computed from the token rows, is a slot of its row.
-/
module

public import proofs.«01_k».proof.Proof.KernelIdeal.DenseDat
public import proofs.«01_k».proof.Proof.KernelIdeal.ScatterDat
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- The pipeline library's algebra is the left component of the certificate's. -/
abbrev EP : Emb (UR sig nD τ) (MT nD τ sig Unit (Elt F) ℕ UU ℕ) := embL

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-! ## The host stretches -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev hostOps0_W : List (Ref sig .tc) := [main_v0, main_v1, main_v2, main_v3, main_v4, main_v5, main_v6]
abbrev hostOps1_W : List (Ref sig .tc) := [main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps1_writes : (hostOps1 : List (HloOp τ sig (Elt F))).Forall fun op => op.writes ⊆ (hostOps1_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)

/-! ## The buffers at each boundary -/

/-- At launch; after the first host stretch; after the dense region; after the second host stretch; at the end. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) := Function.update (W3 m ρ c) (Proc.devRef .tc main_v9) (scatOut (V3 m ρ) c)
abbrev V4 : (c : Dev nD) → (b : Ref sig .tc) → Buf (Elt F) ((c : Thread nD τ).loc b) := fun c b => W4 m ρ c b

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is no output array of the dense region passes through it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem args_ne_result : ∀ a ∈ argRefs, a ≠ main_v9 := ListAll.forall_mem_of_all_decide (by decide +kernel)
theorem W4_of_ne (c : Dev nD) (b : Ref sig .tc) (hb : b ≠ main_v9) : W4 m ρ c (Proc.devRef .tc b) = W3 m ρ c (Proc.devRef .tc b) := by
  unfold W4; exact Function.update_of_ne (StableHlo.devRef_ne_of_ne hb) _ _
theorem W4_result (c : Dev nD) : W4 m ρ c (Proc.devRef .tc main_v9) = scatOut (V3 m ρ) c := by
  unfold W4; exact Function.update_self _ _ _
theorem W2_args (c : Dev nD) : ∀ a ∈ argRefs, W2 m ρ c (Proc.devRef .tc a) = m ((c : Thread nD τ).loc a) := fun a ha =>
  (W2_of m ρ c a (argsIn0 a ha)).trans (W1_of m ρ c a (hostOps0_args a ha))
theorem W3_args (c : Dev nD) : ∀ a ∈ argRefs, W3 m ρ c (Proc.devRef .tc a) = m ((c : Thread nD τ).loc a) := fun a ha =>
  (W3_of m ρ c a (hostOps1_args a ha)).trans (W2_args m ρ c a ha)
/-- The arguments end as launched. -/
theorem W4_args (c : Dev nD) : ∀ a ∈ argRefs, W4 m ρ c (Proc.devRef .tc a) = m ((c : Thread nD τ).loc a) := fun a ha =>
  (W4_of_ne m ρ c a (args_ne_result a ha)).trans (W3_args m ρ c a ha)

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem arr1_ne : ∀ w : Fin cfg1.W, Pipeline.arrRef spec1 w ≠ main_v9 := by decide
theorem arr1_in : ∀ w : Fin cfg1.W, (cfg1.win w).isOut = false := by decide
theorem hF1 (c : Dev nD) (w : Fin cfg1.W) : (dat1 (V3 m ρ) c).arrAt w cfg1.N = V4 m ρ c (Pipeline.arrRef spec1 w) :=
  (((dat1 (V3 m ρ) c).arrAt_in w (arr1_in w) _).trans (A_eq1 (V3 m ρ) c w)).trans (W4_of_ne m ρ c _ (arr1_ne w)).symm

/-- The buffers that bypass the scatter region, but the result. -/
def bypass (c : Dev nD) (V : (b : Ref sig .tc) → Buf (Elt F) ((c : Thread nD τ).loc b)) : sProp 𝕄 :=
  bigSep (((Finset.univ.filter fun b : Ref sig .tc => ¬ b.isScoped) \ Finset.univ.image (Pipeline.arrRef spec1)).erase main_v9)
    fun b => ((c : Thread nD τ).loc b) ↦{fullShare} V b
theorem result_bypasses : main_v9 ∈ (Finset.univ.filter fun b : Ref sig .tc => ¬ b.isScoped) \ Finset.univ.image (Pipeline.arrRef spec1) := by decide
theorem unscopedRest1_split (c : Dev nD) (V : (b : Ref sig .tc) → Buf (Elt F) ((c : Thread nD τ).loc b)) :
    (Pipeline.unscopedRest (Ix := Unit) (Name := ℕ) (U := UU) (Lvl := ℕ) spec1 c V : sProp 𝕄)
      = iprop(pt c main_v9 (V main_v9) ∗ bypass c V) := by
  unfold Pipeline.unscopedRest bypass
  exact BI.bigSep_erase result_bypasses
theorem bypass_eq (c : Dev nD) : (bypass c (V3 m ρ c) : sProp 𝕄) = bypass c (V4 m ρ c) := by
  unfold bypass
  exact bigSep_congr fun b hb => by rw [show V4 m ρ c b = V3 m ρ c b from W4_of_ne m ρ c b (Finset.ne_of_mem_erase hb)]

/-! ## The segments -/

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the core's generator register, and its `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The dense region over the core's buffers. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UU) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hp : ∀ (c : Dev nD) (b : Fin 128), ((k1_pay1 (F := F) (tokB (V3 m ρ) c) : S128x1.Idx → BitVec 32) (ix2 b 0)).toNat < 77)

set_option backward.isDefEq.respectTransparency.types false in
/-- The scatter region over the core's buffers: the result and the call's own semaphores go into the invariant. -/
def reg1 : Pipeline.RegionSeg (pcfgs (F := F)) adm (pdats m ρ) () defs₀ 𝒱₀ L lv 1 where
  win := launch1.win.to₀
  block_pos := launch1.block_pos
  stage_whole := launch1.stage_whole
  K := Fin 3
  osem := osem1
  ho := ownSemFacts1
  hbody c := (body_obligation1 (V3 m ρ) c (hp c)).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(pt c main_v9 (V3 m ρ c main_v9) ∗ sems1 c)
  Y c := pt c main_v9 (scatOut (V3 m ρ) c)
  Z c := iprop(bypass c (V3 m ρ c) ∗ ∃ r, prngReg c r)
  hentry c := by
    rw [ownSems1_eq]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    replace hsplit := hsplit.trans (BIClass.sep_mono .rfl (Entails.of_eq (unscopedRest1_split c (V3 m ρ c))))
    iintro ⟨⟨Hub, Hp, HO⟩, Hos, -⟩
    ihave H := hsplit $$ Hub
    icases H with ⟨Ha, H9, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H9 Hos]
    · isplitl [H9]; · iexact H9
      iexact Hos
    isplitl [Hrest]; · iexact Hrest
    iexact Hp
  hin c := by
    rw [show (pdats m ρ 1 c).Φ 0 = Phi1 c (V3 m ρ c main_v9) from Phi1_first (V3 m ρ) c]; unfold Phi1
    iintro ⟨⟨H9, Hos⟩, -, Hr⟩
    isplitl [H9]; · iexact H9
    isplitl [Hos]; · iexact Hos
    iexact Hr
  hout c := by
    rw [ownSems1_eq, show (pdats m ρ 1 c).Φ (Fin.last _) = Phi1 c (scatOut (V3 m ρ) c) from Phi1_last (V3 m ρ) c]; unfold Phi1
    iintro ⟨H9, Hos, Hr⟩
    isplitl [H9]; · iexact H9
    isplitl [Hos]; · iexact Hos
    iexact Hr
  hexit c := by
    have hjoin := Pipeline.unscopedBufs_of_arrays (p := 1) (pcfgs (F := F)) adm (Ix := Unit) (Name := ℕ) (U := UU) (Lvl := ℕ)
      launch1.win launch1.arr_whole c (pdats m ρ) ((pdats m ρ 1 c).share_full fun _ => rfl)
      (V4 m ρ c) (V4 m ρ c) ((pdats m ρ 1 c).arrAt · cfg1.N) (hF1 m ρ c) (fun _ _ => rfl)
    rw [Pipeline.unscopedBufs_held] at hjoin
    replace hjoin := (BIClass.sep_mono .rfl (Entails.of_eq (unscopedRest1_split c (V4 m ρ c)).symm)).trans hjoin
    rw [show V4 m ρ c main_v9 = scatOut (V3 m ρ) c from W4_result m ρ c, ← bypass_eq] at hjoin
    iintro ⟨Ha, HO, HY, Hrest, Hp⟩
    imodintro
    isplitl [Ha Hrest HY Hp]
    · isplitl [Ha Hrest HY]
      · iapply hjoin
        isplitl [Ha]; · iexact Ha
        isplitl [HY]; · iexact HY
        iexact Hrest
      iexact Hp
    unfold Pipeline.Dat.owesAt Pipeline.owesWithin
    icases HO with ⟨%W, -, HO⟩; iexists W; iexact HO

/-- @main's four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hp) ]
theorem main_run (c : Dev nD) : main (F := F) c = Pipeline.Seg.run (segs m ρ hp) := (main_chain c).trans (by chain_rfl)
theorem no_unscoped : ∀ sm : SemLoc sig, sm.isScoped .tc = true := by decide

/-- The launch element: the pipeline library's at the staging cells and the pipelines' transfers; no counter yet. -/
def u₀ : UU := (initOf (Pipeline.cells cfgs cellOf_inj) (Pipeline.launchToks cfgs cellOf_inj), 1)

include hp in
set_option backward.isDefEq.respectTransparency.types false in
/-- THE RUN: from any memory with zero counters whose position words are slots, every weakly fair execution of @main
    terminates, and every final state has every unscoped buffer at the last boundary's contents and every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj EP defs₀ 𝒱₀ L lv m ρ main (segs m ρ hp)
    (fun c Q => by rw [main_run m ρ hp c])
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The result after the run. -/
theorem read_result {s : MemSt nD τ sig (Elt F)} (h : ∀ c : Dev nD, ∀ b ∈ Pipeline.ucRefs τ sig, s.mem (((c : Thread nD τ)).1, b) = W4 m ρ c b) (c : Dev nD) :
    s.mem ((c.tc : Thread nD τ).loc main_v9) = scatOut (V3 m ρ) c :=
  (h c _ (mem_uc main_v9 (by decide))).trans (W4_result m ρ c)

theorem args_uc : ∀ a ∈ argRefs, ¬ (Proc.devRef .tc a : DevRef τ sig).isScoped := ListAll.forall_mem_of_all_decide (by decide +kernel)

/-- An argument after the run. -/
theorem read_arg {s : MemSt nD τ sig (Elt F)} (h : ∀ c : Dev nD, ∀ b ∈ Pipeline.ucRefs τ sig, s.mem (((c : Thread nD τ)).1, b) = W4 m ρ c b) (c : Dev nD)
    (a : Ref sig .tc) (ha : a ∈ argRefs) : s.mem ((c.tc : Thread nD τ).loc a) = m ((c.tc : Thread nD τ).loc a) :=
  (h c _ (mem_uc a (args_uc a ha))).trans (W4_args m ρ c a ha)

/-- All of them. -/
theorem read_args {s : MemSt nD τ sig (Elt F)} (h : ∀ c : Dev nD, ∀ b ∈ Pipeline.ucRefs τ sig, s.mem (((c : Thread nD τ)).1, b) = W4 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20)
    ∧ s.mem ((c.tc : Thread nD τ).loc main_arg21) = m ((c.tc : Thread nD τ).loc main_arg21) :=
  ⟨read_arg m ρ h c main_arg0 (by decide), read_arg m ρ h c main_arg1 (by decide), read_arg m ρ h c main_arg2 (by decide), read_arg m ρ h c main_arg3 (by decide), read_arg m ρ h c main_arg4 (by decide), read_arg m ρ h c main_arg5 (by decide), read_arg m ρ h c main_arg6 (by decide), read_arg m ρ h c main_arg7 (by decide), read_arg m ρ h c main_arg8 (by decide), read_arg m ρ h c main_arg9 (by decide), read_arg m ρ h c main_arg10 (by decide), read_arg m ρ h c main_arg11 (by decide), read_arg m ρ h c main_arg12 (by decide), read_arg m ρ h c main_arg13 (by decide), read_arg m ρ h c main_arg14 (by decide), read_arg m ρ h c main_arg15 (by decide), read_arg m ρ h c main_arg16 (by decide), read_arg m ρ h c main_arg17 (by decide), read_arg m ρ h c main_arg18 (by decide), read_arg m ρ h c main_arg19 (by decide), read_arg m ρ h c main_arg20 (by decide), read_arg m ρ h c main_arg21 (by decide)⟩

end Cert.KernelIdeal.Hand

end
-- ==== Proof.KernelIdeal.Words.lean ====
/-
  The position words of the scatter region, from the token rows the program was launched with: the region stages the whole
  token array, and its first payload is `PosWord.word` of it, row by row.
-/
module

public import proofs.«01_k».proof.Proof.KernelIdeal.Run
public import proofs.«01_k».proof.Proof.PosWord
public import Idealize.ShloMosaic.Lib.ValueLayoutCasts

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ) (ρ : Dev nD → PrngReg)

theorem zero_off0 : (fun a => (win1_0.index t1_0) a * main_arg0.ty.shape.size a) = fun _ => 0 :=
  funext fun a => by fin_cases a <;> decide

/-- The staged token rows are the launched token array. -/
theorem tokB_eq (c : Dev nD) : (tokB (V3 m ρ) c : S128x77.Idx → BitVec 32) = m ((c.tc : Thread nD τ).loc main_arg0) := by
  have h := Memref.read_access_unit_zero (Elt F) main_arg0 zero_off0 (fun a => by fin_cases a <;> decide) (V3 m ρ c main_arg0)
  refine Eq.trans ?_ (W3_args m ρ c main_arg0 (by decide))
  exact h

/-- The payload at a row is that row's position word. -/
theorem pay1_word (x : S128x77.Idx → BitVec 32) (b : Fin 128) :
    (k1_pay1 (F := F) x : S128x1.Idx → BitVec 32) (ix2 b 0) = PosWord.word x b := by
  unfold k1_pay1
  show shapeCast S128x1 (shapeCast S128x1 _ shapeCasts_S128_S128x1) shapeCasts_S128x1_S128x1 (ix2 b 0) = _
  rw [shapeCast_self, shapeCast_a_a1_apply]
  refine (PosWord.multiReductionI_row _ reduces_S128x77_S128 rfl (ix1 b)).trans ?_
  unfold PosWord.word
  refine Finset.sum_congr rfl fun k _ => ?_
  refine (PosWord.select_eq (x (ix2 b k)) 49408#32 (iota .tc S128x77 32 [1] iota_S128x77_d1_w32 (ix2 b k)) 0#32).trans ?_
  have e : iota .tc S128x77 32 [1] iota_S128x77_d1_w32 (ix2 b k) = BitVec.ofNat 32 k.val := by
    show BitVec.ofNat 32 _ = _
    congr 1
    show 0 * 77 + k.val = k.val
    omega
  rw [e]

/-- When each row's word is a slot, so is each payload word. -/
theorem slots_of_words (hw : ∀ (c : Dev nD) (b : Fin 128), (PosWord.word (m ((c.tc : Thread nD τ).loc main_arg0)) b).toNat < 77)
    (c : Dev nD) (b : Fin 128) : ((k1_pay1 (F := F) (tokB (V3 m ρ) c) : S128x1.Idx → BitVec 32) (ix2 b 0)).toNat < 77 := by
  rw [pay1_word, tokB_eq]; exact hw c b

end Cert.KernelIdeal.Hand

end
-- ==== Proof.Frames.lean ====
/-
  The frames: the kernel program, its idealization and the idealized reference each end with their arguments as launched and
  every counter at zero. A run of the kernel programs asks one thing of the launch, that each row's position word is a
  column, and the precondition gives it.
-/
module

public import proofs.«01_k».proof.Proof.Pre
public import proofs.«01_k».proof.Proof.Kernel.Words
public import proofs.«01_k».proof.Proof.KernelIdeal.Words
public import proofs.«01_k».proof.Proof.Gen.ReferenceIdeal.Run

@[expose] public section

set_option maxRecDepth 16384

noncomputable section

namespace Cert.Pre_position_in_row
/-- The side conditions the precondition's operations take. -/
theorem facts : Facts := ⟨by decide, by decide, by decide, by decide⟩
end Cert.Pre_position_in_row

namespace Cert.Proof

open Idealize.ShloMosaic Idealize.ShloMosaic.TcCoe Idealize.SL.Sem

attribute [local instance] Cert.Kernel.Gen.facts Cert.KernelIdeal.Gen.facts Cert.ReferenceIdeal.Gen.facts
attribute [local instance] Cert.Pre_position_in_row.facts

/-- The words of the launch are columns. -/
theorem words_kernel (m : (ℓ : Loc Cert.Kernel.nD Cert.Kernel.τ Cert.Kernel.sig) → Buf (Elt Bits) ℓ) (h : Pre_Kernel m)
    (c : Dev Cert.Kernel.nD) (b : Fin 128) :
    (PosWord.word (m ((c.tc : Thread Cert.Kernel.nD Cert.Kernel.τ).loc Cert.Kernel.main_arg0)) b).toNat < 77 :=
  PreFacts.row _ _ _ _ _ _ _ _ _ _ _ _ _ _ _ _ _ _ _ _ _ _ (h c) b

theorem words_ideal (m : (ℓ : Loc Cert.KernelIdeal.nD Cert.KernelIdeal.τ Cert.KernelIdeal.sig) → Buf (Elt Ideal) ℓ) (h : Pre_KernelIdeal m)
    (c : Dev Cert.KernelIdeal.nD) (b : Fin 128) :
    (PosWord.word (m ((c.tc : Thread Cert.KernelIdeal.nD Cert.KernelIdeal.τ).loc Cert.KernelIdeal.main_arg0)) b).toNat < 77 :=
  PreFacts.row _ _ _ _ _ _ _ _ _ _ _ _ _ _ _ _ _ _ _ _ _ _ (h c) b

theorem frame_kernel : quiescent_Kernel := fun m g hPre =>
  (θ_run Cert.Kernel.defs _ _).mono (fun _ h => ⟨fun c => Cert.Kernel.Hand.read_args m g h.1 c, h.2⟩)
    (Cert.Kernel.Hand.run_all m g (Cert.Kernel.Hand.slots_of_words m g (words_kernel m hPre)))

theorem frame_ideal : quiescent_KernelIdeal := fun m g hPre =>
  (θ_run Cert.KernelIdeal.defs _ _).mono (fun _ h => ⟨fun c => Cert.KernelIdeal.Hand.read_args m g h.1 c, h.2⟩)
    (Cert.KernelIdeal.Hand.run_all m g (Cert.KernelIdeal.Hand.slots_of_words m g (words_ideal m hPre)))

theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.PreOne.lean ====
/-
  What the precondition `one_placeholder_finite_weights` says of the arrays it is evaluated on: each row counts one
  placeholder, and the arrays the attention logits are computed from hold real numbers.
-/
module

public import proofs.«01_k».proof.Defs
public import proofs.«01_k».proof.Proof.PosWord

@[expose] public section

set_option maxRecDepth 16384

noncomputable section

namespace Cert.PreFacts

open Idealize.ShloMosaic Idealize.ShloMosaic.ValueIdx

section One

open Cert.Pre_one_placeholder_finite_weights

theorem count [Facts] {F : FTy → Type} [FloatOps F] (a0 : IVec S128x77 32) (a1 : FVec F S128x77x768 .f32) (a2 : IVec S128 32) (a3 : FVec F S1x768 .f32) (a4 : FVec F S768x3072 .f32) (a5 : FVec F S3072 .f32) (a6 : FVec F S3072x3072 .f32) (a7 : FVec F S3072 .f32) (a8 : FVec F S3072x768 .f32) (a9 : FVec F S768 .f32) (a10 : FVec F S768x512 .f32) (a11 : FVec F S768x512 .f32) (a12 : FVec F S768x512 .f32) (a13 : FVec F S512x768 .f32) (a14 : FVec F S768 .f32) (a15 : FVec F S768x512 .f32) (a16 : FVec F S768x512 .f32) (a17 : FVec F S768x512 .f32) (a18 : FVec F S512x768 .f32) (a19 : FVec F S768 .f32) (a20 : FVec F S768x768 .f32) (a21 : FVec F S768 .f32)
    (h : (fn (F := F) a0 a1 a2 a3 a4 a5 a6 a7 a8 a9 a10 a11 a12 a13 a14 a15 a16 a17 a18 a19 a20 a21).1 = fun _ => 1#1) (b : Fin 128) : PosWord.count a0 b = 1#32 := by
  have hb := congrFun h (ix1 b)
  have e : Host.reduce IntOp.addi (extui 32 (cmpi .eq a0 (broadcastInDim S128x77 ![] Facts.bcast_S_S128x77 (constantI S_ 32 49408#32))) Facts.natLt_1_32)
      (constantI S_ 32 0#32) Facts.reducesTo_S128x77_S128_d1 Facts.h_S_ (ix1 b) = PosWord.count a0 b := by
    refine (PosWord.hostReduce_row _ _ Facts.reducesTo_S128x77_S128_d1 Facts.h_S_ rfl (ix1 b)).trans ?_
    unfold PosWord.count
    refine Finset.sum_congr rfl fun k _ => ?_
    exact PosWord.ext_eq (a0 (ix2 b k)) 49408#32
  have h' : IntOp.cmpi .eq (PosWord.count a0 b) 1#32 = 1#1 := by rw [← e]; exact hb
  revert h'; unfold IntOp.cmpi
  by_cases hc : PosWord.count a0 b = 1#32
  · exact fun _ => hc
  · have hf : (PosWord.count a0 b == 1#32) = false := by simpa using hc
    intro h'; simp [hf] at h'

/-- An extended real whose absolute value is below infinity is a real number. -/
theorem real_of_abs_lt (x : EReal) (h : Ideal.cmp .olt (max x (-x)) (Ideal.ofBits .f32 0x7F800000#32) = 1#1) : ∃ r : ℝ, x = r := by
  have ht : Ideal.ofBits .f32 0x7F800000#32 = ⊤ := by
    simp [Ideal.ofBits, Ideal.ieee]
  rw [ht] at h
  unfold Ideal.cmp at h
  induction x using EReal.rec with
  | bot => simp at h
  | coe r => exact ⟨r, rfl⟩
  | top => simp at h

theorem real3 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.1 = fun _ => 1#1) (i : (S1x768).Idx) : ∃ r : ℝ, a3 i = r :=
  real_of_abs_lt _ (congrFun h i)

theorem real4 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.1 = fun _ => 1#1) (i : (S768x3072).Idx) : ∃ r : ℝ, a4 i = r :=
  real_of_abs_lt _ (congrFun h i)

theorem real5 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.1 = fun _ => 1#1) (i : (S3072).Idx) : ∃ r : ℝ, a5 i = r :=
  real_of_abs_lt _ (congrFun h i)

theorem real6 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.1 = fun _ => 1#1) (i : (S3072x3072).Idx) : ∃ r : ℝ, a6 i = r :=
  real_of_abs_lt _ (congrFun h i)

theorem real7 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.1 = fun _ => 1#1) (i : (S3072).Idx) : ∃ r : ℝ, a7 i = r :=
  real_of_abs_lt _ (congrFun h i)

theorem real8 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.1 = fun _ => 1#1) (i : (S3072x768).Idx) : ∃ r : ℝ, a8 i = r :=
  real_of_abs_lt _ (congrFun h i)

theorem real9 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.1 = fun _ => 1#1) (i : (S768).Idx) : ∃ r : ℝ, a9 i = r :=
  real_of_abs_lt _ (congrFun h i)

theorem real10 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.1 = fun _ => 1#1) (i : (S768x512).Idx) : ∃ r : ℝ, a10 i = r :=
  real_of_abs_lt _ (congrFun h i)

theorem real11 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.1 = fun _ => 1#1) (i : (S768x512).Idx) : ∃ r : ℝ, a11 i = r :=
  real_of_abs_lt _ (congrFun h i)

theorem real12 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.2.1 = fun _ => 1#1) (i : (S768x512).Idx) : ∃ r : ℝ, a12 i = r :=
  real_of_abs_lt _ (congrFun h i)

theorem real13 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.2.2.1 = fun _ => 1#1) (i : (S512x768).Idx) : ∃ r : ℝ, a13 i = r :=
  real_of_abs_lt _ (congrFun h i)

theorem real14 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.2.2.2.1 = fun _ => 1#1) (i : (S768).Idx) : ∃ r : ℝ, a14 i = r :=
  real_of_abs_lt _ (congrFun h i)

theorem real15 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.2.2.2.2.1 = fun _ => 1#1) (i : (S768x512).Idx) : ∃ r : ℝ, a15 i = r :=
  real_of_abs_lt _ (congrFun h i)

theorem real16 [Facts] (a0 : IVec S128x77 32) (a1 : FVec Ideal S128x77x768 .f32) (a2 : IVec S128 32) (a3 : FVec Ideal S1x768 .f32) (a4 : FVec Ideal S768x3072 .f32) (a5 : FVec Ideal S3072 .f32) (a6 : FVec Ideal S3072x3072 .f32) (a7 : FVec Ideal S3072 .f32) (a8 : FVec Ideal S3072x768 .f32) (a9 : FVec Ideal S768 .f32) (a10 : FVec Ideal S768x512 .f32) (a11 : FVec Ideal S768x512 .f32) (a12 : FVec Ideal S768x512 .f32) (a13 : FVec Ideal S512x768 .f32) (a14 : FVec Ideal S768 .f32) (a15 : FVec Ideal S768x512 .f32) (a16 : FVec Ideal S768x512 .f32) (a17 : FVec Ideal S768x512 .f32) (a18 : FVec Ideal S512x768 .f32) (a19 : FVec Ideal S768 .f32) (a20 : FVec Ideal S768x768 .f32) (a21 : FVec Ideal S768 .f32)
    (h : (fn (F := Ideal) a0 a1 a2 a3 a4 a5 a6 a7 a8 a9 a10 a11 a12 a13 a14 a15 a16 a17 a18 a19 a20 a21).2.2.2.2.2.2.2.2.2.2.2.2.2.2 = fun _ => 1#1) (i : (S768x512).Idx) : ∃ r : ℝ, a16 i = r :=
  real_of_abs_lt _ (congrFun h i)

end One

end Cert.PreFacts

end
-- ==== Proof.FramesOne.lean ====
/-
  The frames the value claim rests on, under its own precondition: each row holds the placeholder once, so its position word
  is a column, and the idealized kernel and reference end with their arguments as launched and every counter at zero.
-/
module

public import proofs.«01_k».proof.Proof.PreOne
public import proofs.«01_k».proof.Proof.KernelIdeal.Words
public import proofs.«01_k».proof.Proof.Gen.ReferenceIdeal.Run

@[expose] public section

set_option maxRecDepth 16384

noncomputable section

namespace Cert.Pre_one_placeholder_finite_weights
/-- The side conditions the precondition's operations take. -/
theorem facts : Facts := ⟨by decide, by decide, by decide, by decide, by decide, by decide, by decide, by decide, by decide, by decide, by decide, by decide, by decide⟩
end Cert.Pre_one_placeholder_finite_weights

namespace Cert.Proof

open Idealize.ShloMosaic Idealize.ShloMosaic.TcCoe Idealize.SL.Sem

attribute [local instance] Cert.KernelIdeal.Gen.facts Cert.ReferenceIdeal.Gen.facts
attribute [local instance] Cert.Pre_one_placeholder_finite_weights.facts

/-- Under the second precondition each row holds the placeholder in one column, which is its word. -/
theorem column_ideal (m : (ℓ : Loc Cert.KernelIdeal.nD Cert.KernelIdeal.τ Cert.KernelIdeal.sig) → Buf (Elt Ideal) ℓ)
    (h : Pre_KernelIdeal_one_placeholder_finite_weights m) (c : Dev Cert.KernelIdeal.nD) (b : Fin 128) :
    ∃ k : Fin 77, (∀ j : Fin 77, (m ((c.tc : Thread Cert.KernelIdeal.nD Cert.KernelIdeal.τ).loc Cert.KernelIdeal.main_arg0) : Cert.KernelIdeal.S128x77.Idx → BitVec 32) (ValueIdx.ix2 b j) = 49408#32 ↔ j = k)
      ∧ (PosWord.word (m ((c.tc : Thread Cert.KernelIdeal.nD Cert.KernelIdeal.τ).loc Cert.KernelIdeal.main_arg0)) b).toNat = k.val :=
  PosWord.unique_of_count _ b (PreFacts.count _ _ _ _ _ _ _ _ _ _ _ _ _ _ _ _ _ _ _ _ _ _ (h c).1 b)

theorem words_ideal_one (m : (ℓ : Loc Cert.KernelIdeal.nD Cert.KernelIdeal.τ Cert.KernelIdeal.sig) → Buf (Elt Ideal) ℓ)
    (h : Pre_KernelIdeal_one_placeholder_finite_weights m) (c : Dev Cert.KernelIdeal.nD) (b : Fin 128) :
    (PosWord.word (m ((c.tc : Thread Cert.KernelIdeal.nD Cert.KernelIdeal.τ).loc Cert.KernelIdeal.main_arg0)) b).toNat < 77 := by
  obtain ⟨k, -, hk⟩ := column_ideal m h c b
  rw [hk]; exact k.isLt

theorem frame_ideal_one : quiescent_KernelIdeal_pre_one_placeholder_finite_weights := fun m g hPre =>
  (θ_run Cert.KernelIdeal.defs _ _).mono (fun _ h => ⟨fun c => Cert.KernelIdeal.Hand.read_args m g h.1 c, h.2⟩)
    (Cert.KernelIdeal.Hand.run_all m g (Cert.KernelIdeal.Hand.slots_of_words m g (words_ideal_one m hPre)))

theorem frame_reference_one : quiescent_ReferenceIdeal_pre_one_placeholder_finite_weights := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Formula.lean ====
/-
  The function both programs compute, on the extended reals: the timestep embedding's two layers, the embedding `h` with the
  initial embedding added, and the second attention's value and output products with the closing linear layer. And where its
  numbers are real: a softmax over one real logit weighs that entry with 1.
-/
module

public import Idealize.ShloMosaic.PureOps.Ideal
public import Idealize.ShloMosaic.Lib.Pointwise

@[expose] public section

noncomputable section

namespace Cert.Formula

open Idealize.ShloMosaic

/-- The arrays that reach the result, by their coordinates. -/
structure Args where
  ts : Fin 128 → BitVec 32
  init : Fin 768 → EReal
  tW1 : Fin 768 → Fin 3072 → EReal
  tb1 : Fin 3072 → EReal
  tW2 : Fin 3072 → Fin 3072 → EReal
  tb2 : Fin 3072 → EReal
  eW : Fin 3072 → Fin 768 → EReal
  eb : Fin 768 → EReal
  wv : Fin 768 → Fin 512 → EReal
  wo : Fin 512 → Fin 768 → EReal
  bo : Fin 768 → EReal
  nw : Fin 768 → Fin 768 → EReal
  nb : Fin 768 → EReal

/-- `x · 1 / (1 + e^(-x))`. -/
def silu (x : EReal) : EReal := x * Ideal.div 1 (1 + Ideal.exp (-x))

theorem silu_eq (x : EReal) : x * Ideal.logistic x = silu x := rfl

/-- The `k`th frequency, by the words the programs hold its constants in. -/
def freq (k : Fin 384) : EReal :=
  Ideal.exp (Ideal.div (-Ideal.log (Ideal.ofBits .f32 0x461C4000#32) * (((BitVec.ofNat 32 k.val).toInt : ℝ) : EReal))
    (Ideal.ofBits .f32 0x43C00000#32))

/-- The angle of a row's timestep at the `k`th frequency. -/
def angle (A : Args) (b : Fin 128) (k : Fin 384) : EReal := (((A.ts b).toInt : ℝ) : EReal) * freq k

/-- The first layer before its activation. -/
def first (A : Args) (b : Fin 128) (n : Fin 3072) : EReal :=
  ∑ k : Fin 384, Ideal.cos (angle A b k) * A.tW1 ⟨k.val, by omega⟩ n
    + ∑ k : Fin 384, Ideal.sin (angle A b k) * A.tW1 ⟨384 + k.val, by omega⟩ n + A.tb1 n

/-- The second layer before its activation. -/
def second (A : Args) (b : Fin 128) (n : Fin 3072) : EReal := ∑ k : Fin 3072, silu (first A b k) * A.tW2 k n + A.tb2 n

/-- The embedding with the initial embedding added. -/
def emb (A : Args) (b : Fin 128) (d : Fin 768) : EReal := ∑ n : Fin 3072, silu (second A b n) * A.eW n d + A.eb d + A.init d

/-- The row's placeholder embedding. -/
def out (A : Args) (b : Fin 128) (d : Fin 768) : EReal :=
  ∑ e : Fin 768, (∑ n : Fin 512, (∑ k : Fin 768, emb A b k * A.wv k n) * A.wo n e + A.bo e) * A.nw e d + A.nb d

/-! ### Real numbers -/

/-- An extended real that is a real number. -/
def IsReal (x : EReal) : Prop := ∃ r : ℝ, x = r

theorem real_add {x y : EReal} : IsReal x → IsReal y → IsReal (x + y)
  | ⟨a, ha⟩, ⟨b, hb⟩ => ⟨a + b, by rw [ha, hb, EReal.coe_add]⟩

theorem real_mul {x y : EReal} : IsReal x → IsReal y → IsReal (x * y)
  | ⟨a, ha⟩, ⟨b, hb⟩ => ⟨a * b, by rw [ha, hb, EReal.coe_mul]⟩

theorem real_neg {x : EReal} : IsReal x → IsReal (-x)
  | ⟨a, ha⟩ => ⟨-a, by rw [ha, EReal.coe_neg]⟩

theorem real_sum {ι : Type} (s : Finset ι) {f : ι → EReal} (h : ∀ i, IsReal (f i)) : IsReal (∑ i ∈ s, f i) := by
  classical
  induction s using Finset.induction_on with
  | empty => exact ⟨0, by simp⟩
  | insert i s hi ih => rw [Finset.sum_insert hi]; exact real_add (h i) ih

theorem real_exp {x : EReal} : IsReal x → IsReal (Ideal.exp x)
  | ⟨a, ha⟩ => ⟨Real.exp a, by rw [ha]; rfl⟩

theorem real_cos {x : EReal} : IsReal x → IsReal (Ideal.cos x)
  | ⟨a, ha⟩ => ⟨Real.cos a, by rw [ha]; rfl⟩

theorem real_sin {x : EReal} : IsReal x → IsReal (Ideal.sin x)
  | ⟨a, ha⟩ => ⟨Real.sin a, by rw [ha]; rfl⟩

/-- A quotient of reals by a real other than zero. -/
theorem real_div {x y : EReal} (hx : IsReal x) (hy : IsReal y) (h0 : y ≠ 0) : IsReal (Ideal.div x y) := by
  obtain ⟨a, rfl⟩ := hx
  obtain ⟨b, rfl⟩ := hy
  exact ⟨a * b⁻¹, by rw [Ideal.div, if_neg h0, EReal.coe_mul, EReal.coe_inv]⟩

theorem real_silu {x : EReal} (hx : IsReal x) : IsReal (silu x) := by
  refine real_mul hx (real_div ⟨1, rfl⟩ (real_add ⟨1, rfl⟩ (real_exp (real_neg hx))) ?_)
  obtain ⟨a, rfl⟩ := hx
  have h : (1 : EReal) + Ideal.exp (-(a : EReal)) = ((1 + Real.exp (-a) : ℝ) : EReal) := by
    rw [← EReal.coe_neg]; rfl
  rw [h]
  exact fun h0 => (add_pos one_pos (Real.exp_pos (-a))).ne' (EReal.coe_eq_zero.mp h0)

/-- The real a positive normal word denotes, by its exponent and fraction fields. -/
theorem word_value (b : BitVec 32) (E T : ℕ) (r : ℝ) (hn : (b.extractLsb' 31 1 == 1#1) = false)
    (hE : (b.extractLsb' 23 8).toNat = E) (hT : (b.extractLsb' 0 23).toNat = T) (h0 : E ≠ 0) (h1 : E ≠ 255)
    (hr : ((2 : ℝ) ^ 23 + T) * (2 : ℝ) ^ ((E : ℤ) - 150) = r) : Ideal.ofBits .f32 b = (r : EReal) := by
  show Ideal.ieee 8 23 b = _
  have e1 : E ≠ 2 ^ 8 - 1 := by simpa using h1
  simp only [Ideal.ieee, hn, hE, hT, e1, h0, if_false, Nat.cast_add, Nat.cast_pow, Nat.cast_ofNat]
  rw [← hr]
  congr 1
  have e3 : (E : ℤ) - 127 - 23 = (E : ℤ) - 150 := by omega
  simp [e3]

/-- 10000, the word's value. -/
theorem ten_thousand : Ideal.ofBits .f32 0x461C4000#32 = ((10000 : ℝ) : EReal) :=
  word_value _ 140 1851392 _ (by decide) (by decide) (by decide) (by decide) (by decide) (by norm_num)

/-- 384, the word's value. -/
theorem half_dim : Ideal.ofBits .f32 0x43C00000#32 = ((384 : ℝ) : EReal) :=
  word_value _ 135 4194304 _ (by decide) (by decide) (by decide) (by decide) (by decide) (by norm_num)

/-- 1/8, the word's value: the logits' scale. -/
theorem eighth : IsReal (Ideal.ofBits .f32 0x3E000000#32) :=
  ⟨1 / 8, word_value _ 124 0 _ (by decide) (by decide) (by decide) (by decide) (by decide) (by norm_num)⟩

/-- Minus infinity, the word's value. -/
theorem minus_infinity : Ideal.ofBits .f32 0xFF800000#32 = ⊥ := by
  simp [Ideal.ofBits, Ideal.ieee]

theorem real_freq (k : Fin 384) : IsReal (freq k) := by
  have hl : Ideal.log ((10000 : ℝ) : EReal) = ((Real.log 10000 : ℝ) : EReal) := by
    show (if (10000 : ℝ) ≤ 0 then (⊥ : EReal) else ((Real.log 10000 : ℝ) : EReal)) = _
    rw [if_neg (by norm_num)]
  unfold freq
  rw [ten_thousand, half_dim, hl]
  refine real_exp (real_div (real_mul (real_neg ⟨_, rfl⟩) ⟨_, rfl⟩) ⟨_, rfl⟩ ?_)
  exact fun h0 => absurd (EReal.coe_eq_zero.mp h0) (by norm_num)

/-- Real weights make the embedding real. -/
theorem real_emb (A : Args) (hi : ∀ d, IsReal (A.init d)) (h1 : ∀ k n, IsReal (A.tW1 k n)) (h1b : ∀ n, IsReal (A.tb1 n))
    (h2 : ∀ k n, IsReal (A.tW2 k n)) (h2b : ∀ n, IsReal (A.tb2 n)) (he : ∀ n d, IsReal (A.eW n d)) (heb : ∀ d, IsReal (A.eb d))
    (b : Fin 128) (d : Fin 768) : IsReal (emb A b d) := by
  have ha (k : Fin 384) : IsReal (angle A b k) := real_mul ⟨_, rfl⟩ (real_freq k)
  have hf (n : Fin 3072) : IsReal (first A b n) :=
    real_add (real_add (real_sum _ fun k => real_mul (real_cos (ha k)) (h1 _ n))
      (real_sum _ fun k => real_mul (real_sin (ha k)) (h1 _ n))) (h1b n)
  have hs (n : Fin 3072) : IsReal (second A b n) :=
    real_add (real_sum _ fun k => real_mul (real_silu (hf k)) (h2 k n)) (h2b n)
  exact real_add (real_add (real_sum _ fun n => real_mul (real_silu (hs n)) (he n d)) (heb d)) (hi d)

/-- The softmax numerator of one real logit, shifted by the maximum, is 1. -/
theorem shifted_exp {s : EReal} (hs : IsReal s) (f : Fin 1 → EReal) (hf : f 0 = s) :
    Ideal.exp (s - max (Ideal.ofBits .f32 0xFF800000#32)
      (Finset.fold max (Ideal.ofBits .f32 0xFF800000#32) f Finset.univ)) = 1 := by
  obtain ⟨r, rfl⟩ := hs
  rw [minus_infinity, Finset.univ_unique, Finset.fold_singleton]
  have h0 : f default = (r : EReal) := hf
  rw [h0, max_eq_left (bot_le : (⊥ : EReal) ≤ r), max_eq_right (bot_le : (⊥ : EReal) ≤ r), ← EReal.coe_sub, sub_self]
  show ((Real.exp 0 : ℝ) : EReal) = 1
  rw [Real.exp_zero]; rfl

/-- One entry whose softmax numerator is 1 is weighed with 1. -/
theorem weigh_one (e : Fin 1 → EReal) (h : e 0 = 1) (v : EReal) : ∑ x : Fin 1, Ideal.div (e x) (∑ y : Fin 1, e y) * v = v := by
  rw [Fin.sum_univ_one, Fin.sum_univ_one, h, Ideal.div, if_neg one_ne_zero, one_mul]
  have h1 : (1 : EReal)⁻¹ = 1 := by
    rw [show (1 : EReal) = ((1 : ℝ) : EReal) from rfl, ← EReal.coe_inv, inv_one]
  rw [h1, one_mul]

end Cert.Formula

end
-- ==== Proof.KernelIdeal.Payload.lean ====
/-
  The dense region's payloads on the extended reals, at an index: one layer's activation, one block's share of the running
  sum, and the output product.
-/
module

public import proofs.«01_k».proof.Proof.Formula
public import proofs.«01_k».proof.Proof.Gen.KernelIdeal.Skeleton
public import Idealize.ShloMosaic.Lib.Tactic.CleanTypes

@[expose] public section

set_option maxRecDepth 16384

noncomputable section

namespace Cert.KernelValue

open Idealize.ShloMosaic
open Cert.KernelIdeal Cert.KernelIdeal.Gen Cert.Formula

/-- The first layer's activation. -/
theorem pay1 (A : Args) (x : FVec Ideal S128x1 .f32) (y : FVec Ideal S768x3072 .f32) (z : FVec Ideal S1x3072 .f32)
    (hx : ∀ b, x (ix2 b 0) = (((A.ts b).toInt : ℝ) : EReal)) (hy : ∀ k n, y (ix2 k n) = A.tW1 k n)
    (hz : ∀ n, z (ix2 0 n) = A.tb1 n) (b : Fin 128) (n : Fin 3072) :
    k0_pay1 (F := Ideal) x y z (ix2 b n) = silu (first A b n) := by
  unfold k0_pay1
  pointwise
  simp only [hx, hy, hz, zero_sub]
  rfl

theorem pay2 (b : Fin 128) (d : Fin 768) : k0_pay2 (F := Ideal) (ix2 b d) = (0 : EReal) := by
  unfold k0_pay2
  pointwise

/-- One block's share added to the running sum. -/
theorem pay3 (x : FVec Ideal S128x3072 .f32) (y : FVec Ideal S3072x512 .f32) (z : FVec Ideal S1x512 .f32)
    (u : FVec Ideal S128x768 .f32) (v : FVec Ideal S512x768 .f32) (b : Fin 128) (d : Fin 768) :
    k0_pay3 (F := Ideal) x y z u v (ix2 b d)
      = u (ix2 b d) + ∑ j : Fin 512, silu (∑ k : Fin 3072, x (ix2 b k) * y (ix2 k j) + z (ix2 0 j)) * v (ix2 j d) := by
  unfold k0_pay3
  pointwise
  rfl

/-- The output product of an embedding. -/
theorem pay4 (x : FVec Ideal S128x768 .f32) (e i : FVec Ideal S1x768 .f32) (wv : FVec Ideal S768x512 .f32)
    (wo : FVec Ideal S512x768 .f32) (bo : FVec Ideal S1x768 .f32) (nw : FVec Ideal S768x768 .f32) (nb : FVec Ideal S1x768 .f32)
    (b : Fin 128) (d : Fin 768) :
    k0_pay4 (F := Ideal) x e i wv wo bo nw nb (ix2 b d)
      = ∑ f : Fin 768, (∑ n : Fin 512, (∑ k : Fin 768, (x (ix2 b k) + e (ix2 0 k) + i (ix2 0 k)) * wv (ix2 k n)) * wo (ix2 n f)
          + bo (ix2 0 f)) * nw (ix2 f d) + nb (ix2 0 d) := by
  unfold k0_pay4
  pointwise

/-- One block of the hidden units' share of the embedding. -/
def part (A : Args) (b : Fin 128) (d : Fin 768) (t : Fin 6) : EReal :=
  ∑ j : Fin 512, silu (second A b ⟨t.val * 512 + j.val, by omega⟩) * A.eW ⟨t.val * 512 + j.val, by omega⟩ d

/-- The blocks' shares make the whole embedding. -/
theorem sum_parts (A : Args) (b : Fin 128) (d : Fin 768) :
    ∑ n : Fin 3072, silu (second A b n) * A.eW n d = ∑ t : Fin 6, part A b d t :=
  Fin.sum_univ_tiles 6 512 rfl _

end Cert.KernelValue

end
-- ==== Proof.KernelIdeal.Value.lean ====
/-
  The kernel's result on the extended reals: the dense region's blocks are cut from the arrays the program was launched with,
  its running sum ends at the whole embedding, and the scatter region copies each row of its product to the placeholder's
  column.
-/
module

public import proofs.«01_k».proof.Proof.KernelIdeal.Payload
public import proofs.«01_k».proof.Proof.KernelIdeal.Words
public import Idealize.ShloMosaic.Lib.Pipeline.ValueKit
public import Idealize.ShloMosaic.Lib.StableHlo.ReadAt

@[expose] public section

set_option maxRecDepth 16384

noncomputable section

namespace Cert.KernelValue

open Idealize.ShloMosaic Idealize.ShloMosaic.TcCoe Idealize.SL.Sem
open Cert.KernelIdeal Cert.KernelIdeal.Gen Cert.KernelIdeal.Hand Cert.Formula

variable (m : (ℓ : Loc nD τ sig) → Buf (Elt Ideal) ℓ) (ρ : Dev nD → PrngReg) (c : Dev nD)

/-- The launched arrays that reach the result. -/
def args : Args where
  ts b := (m ((c.tc : Thread nD τ).loc main_arg2) : S128.Idx → BitVec 32) (ix1 b)
  init d := (m ((c.tc : Thread nD τ).loc main_arg3) : S1x768.Idx → EReal) (ix2 0 d)
  tW1 k n := (m ((c.tc : Thread nD τ).loc main_arg4) : S768x3072.Idx → EReal) (ix2 k n)
  tb1 n := (m ((c.tc : Thread nD τ).loc main_arg5) : S3072.Idx → EReal) (ix1 n)
  tW2 k n := (m ((c.tc : Thread nD τ).loc main_arg6) : S3072x3072.Idx → EReal) (ix2 k n)
  tb2 n := (m ((c.tc : Thread nD τ).loc main_arg7) : S3072.Idx → EReal) (ix1 n)
  eW n d := (m ((c.tc : Thread nD τ).loc main_arg8) : S3072x768.Idx → EReal) (ix2 n d)
  eb d := (m ((c.tc : Thread nD τ).loc main_arg9) : S768.Idx → EReal) (ix1 d)
  wv k n := (m ((c.tc : Thread nD τ).loc main_arg17) : S768x512.Idx → EReal) (ix2 k n)
  wo n d := (m ((c.tc : Thread nD τ).loc main_arg18) : S512x768.Idx → EReal) (ix2 n d)
  bo d := (m ((c.tc : Thread nD τ).loc main_arg19) : S768.Idx → EReal) (ix1 d)
  nw e d := (m ((c.tc : Thread nD τ).loc main_arg20) : S768x768.Idx → EReal) (ix2 e d)
  nb d := (m ((c.tc : Thread nD τ).loc main_arg21) : S768.Idx → EReal) (ix1 d)

/-! ### What the host prepares -/

theorem host_v1 (b : Fin 128) : (V1 m ρ c main_v1 : S128x1.Idx → EReal) (ix2 b 0) = ((((args m c).ts b).toInt : ℝ) : EReal) := by
  show StableHlo.after hostOps0 (W0 m ρ c) (Proc.devRef .tc main_v1) (ix2 b 0) = _
  after_reads_at
  rfl

theorem host_v2 (n : Fin 3072) : (V1 m ρ c main_v2 : S1x3072.Idx → EReal) (ix2 0 n) = (args m c).tb1 n := by
  show StableHlo.after hostOps0 (W0 m ρ c) (Proc.devRef .tc main_v2) (ix2 0 n) = _
  after_reads_at
  rfl

theorem host_v3 (n : Fin 3072) : (V1 m ρ c main_v3 : S1x3072.Idx → EReal) (ix2 0 n) = (args m c).tb2 n := by
  show StableHlo.after hostOps0 (W0 m ρ c) (Proc.devRef .tc main_v3) (ix2 0 n) = _
  after_reads_at
  rfl

theorem host_v4 (n : Fin 768) : (V1 m ρ c main_v4 : S1x768.Idx → EReal) (ix2 0 n) = (args m c).eb n := by
  show StableHlo.after hostOps0 (W0 m ρ c) (Proc.devRef .tc main_v4) (ix2 0 n) = _
  after_reads_at
  rfl

theorem host_v5 (n : Fin 768) : (V1 m ρ c main_v5 : S1x768.Idx → EReal) (ix2 0 n) = (args m c).bo n := by
  show StableHlo.after hostOps0 (W0 m ρ c) (Proc.devRef .tc main_v5) (ix2 0 n) = _
  after_reads_at
  rfl

theorem host_v6 (n : Fin 768) : (V1 m ρ c main_v6 : S1x768.Idx → EReal) (ix2 0 n) = (args m c).nb n := by
  show StableHlo.after hostOps0 (W0 m ρ c) (Proc.devRef .tc main_v6) (ix2 0 n) = _
  after_reads_at
  rfl

/-- An argument's array is as launched when the dense region starts. -/
theorem host_arg (a : Ref sig .tc) (h : a ∉ hostOps0_W) : V1 m ρ c a = m ((c.tc : Thread nD τ).loc a) := W1_of m ρ c a h

/-! ### The dense region's blocks -/

theorem index0 : ∀ (t : Fin cfg0.N) (a), win0_0.index t a = 0 := by decide +kernel
theorem index1 : ∀ (t : Fin cfg0.N) (a), win0_1.index t a = 0 := by decide +kernel
theorem index2 : ∀ (t : Fin cfg0.N) (a), win0_2.index t a = 0 := by decide +kernel
theorem index6 : ∀ (t : Fin cfg0.N) (a), win0_6.index t a = 0 := by decide +kernel
theorem index7 : ∀ (t : Fin cfg0.N) (a), win0_7.index t a = 0 := by decide +kernel
theorem index8 : ∀ (t : Fin cfg0.N) (a), win0_8.index t a = 0 := by decide +kernel
theorem index9 : ∀ (t : Fin cfg0.N) (a), win0_9.index t a = 0 := by decide +kernel
theorem index10 : ∀ (t : Fin cfg0.N) (a), win0_10.index t a = 0 := by decide +kernel
theorem index11 : ∀ (t : Fin cfg0.N) (a), win0_11.index t a = 0 := by decide +kernel
theorem index12 : ∀ (t : Fin cfg0.N) (a), win0_12.index t a = 0 := by decide +kernel
theorem index13 : ∀ (t : Fin cfg0.N) (a), win0_13.index t a = 0 := by decide +kernel
theorem index1_1 : ∀ (t : Fin cfg1.N) (a), win1_1.index t a = 0 := by decide +kernel
theorem index3 : ∀ t : Fin cfg0.N, win0_3.index t = ![0, t.val] := by decide +kernel
theorem index4 : ∀ t : Fin cfg0.N, win0_4.index t = ![0, t.val] := by decide +kernel
theorem index5 : ∀ t : Fin cfg0.N, win0_5.index t = ![t.val, 0] := by decide +kernel

theorem blk0 (t : Fin cfg0.N) (b : Fin 128) : (iblk0 (V1 m ρ) c 0 t : S128x1.Idx → EReal) (ix2 b 0) = ((((args m c).ts b).toInt : ℝ) : EReal) := by
  refine Eq.trans ?_ (host_v1 m ρ c b)
  blk_simp [iblk0]
  refine congrArg _ (funext fun a => Fin.ext ?_)
  blk_simp [index0]

theorem blk1 (t : Fin cfg0.N) (k : Fin 768) (n : Fin 3072) : (iblk0 (V1 m ρ) c 1 t : S768x3072.Idx → EReal) (ix2 k n) = (args m c).tW1 k n := by
  refine Eq.trans ?_ (congrFun (host_arg m ρ c main_arg4 (by decide)) _)
  blk_simp [iblk0]
  refine congrArg _ (funext fun a => Fin.ext ?_)
  blk_simp [index1]

theorem blk2 (t : Fin cfg0.N) (n : Fin 3072) : (iblk0 (V1 m ρ) c 2 t : S1x3072.Idx → EReal) (ix2 0 n) = (args m c).tb1 n := by
  refine Eq.trans ?_ (host_v2 m ρ c n)
  blk_simp [iblk0]
  refine congrArg _ (funext fun a => Fin.ext ?_)
  blk_simp [index2]

theorem blk6 (t : Fin cfg0.N) (d : Fin 768) : (iblk0 (V1 m ρ) c 6 t : S1x768.Idx → EReal) (ix2 0 d) = (args m c).eb d := by
  refine Eq.trans ?_ (host_v4 m ρ c d)
  blk_simp [iblk0]
  refine congrArg _ (funext fun a => Fin.ext ?_)
  blk_simp [index6]

theorem blk7 (t : Fin cfg0.N) (d : Fin 768) : (iblk0 (V1 m ρ) c 7 t : S1x768.Idx → EReal) (ix2 0 d) = (args m c).init d := by
  refine Eq.trans ?_ (congrFun (host_arg m ρ c main_arg3 (by decide)) _)
  blk_simp [iblk0]
  refine congrArg _ (funext fun a => Fin.ext ?_)
  blk_simp [index7]

theorem blk8 (t : Fin cfg0.N) (k : Fin 768) (n : Fin 512) : (iblk0 (V1 m ρ) c 8 t : S768x512.Idx → EReal) (ix2 k n) = (args m c).wv k n := by
  refine Eq.trans ?_ (congrFun (host_arg m ρ c main_arg17 (by decide)) _)
  blk_simp [iblk0]
  refine congrArg _ (funext fun a => Fin.ext ?_)
  blk_simp [index8]

theorem blk9 (t : Fin cfg0.N) (n : Fin 512) (d : Fin 768) : (iblk0 (V1 m ρ) c 9 t : S512x768.Idx → EReal) (ix2 n d) = (args m c).wo n d := by
  refine Eq.trans ?_ (congrFun (host_arg m ρ c main_arg18 (by decide)) _)
  blk_simp [iblk0]
  refine congrArg _ (funext fun a => Fin.ext ?_)
  blk_simp [index9]

theorem blk10 (t : Fin cfg0.N) (d : Fin 768) : (iblk0 (V1 m ρ) c 10 t : S1x768.Idx → EReal) (ix2 0 d) = (args m c).bo d := by
  refine Eq.trans ?_ (host_v5 m ρ c d)
  blk_simp [iblk0]
  refine congrArg _ (funext fun a => Fin.ext ?_)
  blk_simp [index10]

theorem blk11 (t : Fin cfg0.N) (e d : Fin 768) : (iblk0 (V1 m ρ) c 11 t : S768x768.Idx → EReal) (ix2 e d) = (args m c).nw e d := by
  refine Eq.trans ?_ (congrFun (host_arg m ρ c main_arg20 (by decide)) _)
  blk_simp [iblk0]
  refine congrArg _ (funext fun a => Fin.ext ?_)
  blk_simp [index11]

theorem blk12 (t : Fin cfg0.N) (d : Fin 768) : (iblk0 (V1 m ρ) c 12 t : S1x768.Idx → EReal) (ix2 0 d) = (args m c).nb d := by
  refine Eq.trans ?_ (host_v6 m ρ c d)
  blk_simp [iblk0]
  refine congrArg _ (funext fun a => Fin.ext ?_)
  blk_simp [index12]

/-- A column of point `t`'s block of hidden units. -/
def unit (t : Fin cfg0.N) (j : Fin 512) : Fin 3072 := ⟨t.val * 512 + j.val, by have := t.isLt; have h : cfg0.N = 6 := N_0; omega⟩

theorem blk3 (t : Fin cfg0.N) (k : Fin 3072) (j : Fin 512) : (iblk0 (V1 m ρ) c 3 t : S3072x512.Idx → EReal) (ix2 k j) = (args m c).tW2 k (unit t j) := by
  refine Eq.trans ?_ (congrFun (host_arg m ρ c main_arg6 (by decide)) _)
  blk_simp [iblk0]
  refine congrArg _ (funext fun a => Fin.ext ?_)
  blk_simp [index3]
  fin_cases a <;> simp [unit]

theorem blk4 (t : Fin cfg0.N) (j : Fin 512) : (iblk0 (V1 m ρ) c 4 t : S1x512.Idx → EReal) (ix2 0 j) = (args m c).tb2 (unit t j) := by
  refine Eq.trans ?_ (host_v3 m ρ c (unit t j))
  blk_simp [iblk0]
  refine congrArg _ (funext fun a => Fin.ext ?_)
  blk_simp [index4]
  fin_cases a <;> simp [unit]

theorem blk5 (t : Fin cfg0.N) (j : Fin 512) (d : Fin 768) : (iblk0 (V1 m ρ) c 5 t : S512x768.Idx → EReal) (ix2 j d) = (args m c).eW (unit t j) d := by
  refine Eq.trans ?_ (congrFun (host_arg m ρ c main_arg8 (by decide)) _)
  blk_simp [iblk0]
  refine congrArg _ (funext fun a => Fin.ext ?_)
  blk_simp [index5]
  fin_cases a <;> simp [unit]

/-! ### The running sum and the product -/

theorem hid_eq (b : Fin 128) (n : Fin 3072) : hid (V1 m ρ) c (ix2 b n) = silu (first (args m c) b n) :=
  pay1 (args m c) _ _ _ (blk0 m ρ c _) (blk1 m ρ c _) (blk2 m ρ c _) b n

/-- One point adds its block's share. -/
theorem step (t : Fin cfg0.N) (t' : Fin 6) (ht : t'.val = t.val) (u : FVec Ideal S128x768 .f32) (b : Fin 128) (d : Fin 768) :
    k0_pay3 (F := Ideal) (hid (V1 m ρ) c) (iblk0 (V1 m ρ) c 3 t) (iblk0 (V1 m ρ) c 4 t) u (iblk0 (V1 m ρ) c 5 t) (ix2 b d)
      = u (ix2 b d) + part (args m c) b d t' := by
  have hu (j : Fin 512) : unit t j = ⟨t'.val * 512 + j.val, by omega⟩ := Fin.ext (by simp [unit, ht])
  refine (pay3 _ _ _ _ _ b d).trans ?_
  simp only [hid_eq, blk3, blk4, blk5, hu]
  rfl

theorem acc_zero (h : 0 < cfg0.N) (b : Fin 128) (d : Fin 768) :
    acc (V1 m ρ) c 0 h (ix2 b d) = part (args m c) b d 0 := by
  rw [acc, step m ρ c ⟨0, h⟩ 0 rfl _ b d, pay2, zero_add]

theorem acc_succ (n : ℕ) (h : n + 1 < cfg0.N) (t : Fin 6) (ht : t.val = n + 1) (b : Fin 128) (d : Fin 768) :
    acc (V1 m ρ) c (n + 1) h (ix2 b d) = acc (V1 m ρ) c n (Nat.lt_of_succ_lt h) (ix2 b d) + part (args m c) b d t := by
  rw [acc, step m ρ c ⟨n + 1, h⟩ t ht _ b d]

/-- After the last point the running sum is the sum over all hidden units. -/
theorem acc_last (h : 5 < cfg0.N) (b : Fin 128) (d : Fin 768) :
    acc (V1 m ρ) c 5 h (ix2 b d) = ∑ n : Fin 3072, silu (second (args m c) b n) * (args m c).eW n d := by
  rw [sum_parts, Fin.sum_univ_six, acc_succ m ρ c 4 h 5 rfl, acc_succ m ρ c 3 _ 4 rfl, acc_succ m ρ c 2 _ 3 rfl,
    acc_succ m ρ c 1 _ 2 rfl, acc_succ m ρ c 0 _ 1 rfl, acc_zero]

theorem outv_eq (t : Fin cfg0.N) (ht : t.val = 5) (b : Fin 128) (d : Fin 768) :
    outv (V1 m ρ) c t (ix2 b d) = Formula.out (args m c) b d := by
  obtain ⟨n, hn⟩ := t
  obtain rfl : n = 5 := ht
  refine (pay4 _ _ _ _ _ _ _ _ b d).trans ?_
  simp only [acc_last, blk6, blk7, blk8, blk9, blk10, blk11, blk12]
  rfl

/-- The dense region's result. -/
theorem dense_out : (W2 m ρ c (Proc.devRef .tc main_v7) : S128x768.Idx → EReal) = fun i => Formula.out (args m c) (i 0) (i 1) := by
  refine (W2_arr m ρ c 13).trans ?_
  refine (dat0 (V1 m ρ) c).arrAt_eq_of_covers 13 _ (by decide +kernel) fun t hf y => ?_
  have h5 : t.val = 5 := by
    by_contra h
    rw [noflush_out t h] at hf
    exact absurd hf (by decide)
  blk_simp
  rw [after0_13]
  have hy : y = ix2 (y 0) (y 1) := funext fun a => by fin_cases a <;> rfl
  refine Eq.trans (b := outv (V1 m ρ) c t (ix2 (y 0) (y 1))) (congrArg _ hy) ((outv_eq m ρ c t h5 _ _).trans ?_)
  refine congrArg₂ (Formula.out (args m c)) (Fin.ext ?_) (Fin.ext ?_) <;> blk_simp [index13]

/-! ### The scatter region -/

/-- The rows the scatter region copies from. -/
theorem rowB_eq (b : Fin 128) (d : Fin 768) : rowB (V3 m ρ) c (ix3 b 0 d) = Formula.out (args m c) b d := by
  have e : (W3 m ρ c (Proc.devRef .tc main_v8) : S128x1x768.Idx → EReal) (ix3 b 0 d)
      = (W2 m ρ c (Proc.devRef .tc main_v7) : S128x768.Idx → EReal) (ix2 b d) := by
    show StableHlo.after hostOps1 (W2 m ρ c) (Proc.devRef .tc main_v8) (ix3 b 0 d) = _
    after_reads_at
  refine Eq.trans ?_ (e.trans (congrFun (dense_out m ρ c) (ix2 b d)))
  unfold rowB
  blk_simp [iblk1]
  refine congrArg _ (funext fun a => Fin.ext ?_)
  blk_simp [index1_1]

/-- The embedded text the scatter region copies into. -/
theorem text_eq : (V3 m ρ c main_v9 : S128x77x768.Idx → EReal) = m ((c.tc : Thread nD τ).loc main_arg1) := by
  refine Eq.trans ?_ (W2_args m ρ c main_arg1 (by decide))
  funext i
  show StableHlo.after hostOps1 (W2 m ρ c) (Proc.devRef .tc main_v9) i = _
  after_reads_at
  rfl

/-- The kernel writes the row's placeholder embedding at the column its position word names, and the embedded text elsewhere. -/
theorem result (b : Fin 128) (j : Fin 77) (d : Fin 768) :
    scatOut (V3 m ρ) c (ix3 b j d)
      = if j.val = (PosWord.word (m ((c.tc : Thread nD τ).loc main_arg0)) b).toNat then Formula.out (args m c) b d
        else (m ((c.tc : Thread nD τ).loc main_arg1) : S128x77x768.Idx → EReal) (ix3 b j d) := by
  show (if j.val = ((k1_pay1 (F := Ideal) (tokB (V3 m ρ) c) : S128x1.Idx → BitVec 32) (ValueIdx.ix2 b 0)).toNat
    then rowB (V3 m ρ) c (ValueIdx.ix3 b 0 d) else (V3 m ρ c main_v9 : S128x77x768.Idx → EReal) (ix3 b j d)) = _
  rw [pay1_word, tokB_eq, text_eq, ← ix3_eq_valueIdx, rowB_eq]

end Cert.KernelValue

end
-- ==== Proof.RefValue.lean ====
/-
  The reference's result on the extended reals: its layers are the formula's, each attention weighs its one entry with 1 where
  its logit is real, and what is left is the formula's output product.
-/
module

public import proofs.«01_k».proof.Proof.Formula
public import proofs.«01_k».proof.Proof.Gen.ReferenceIdeal.Run
public import Idealize.ShloMosaic.Lib.Tactic.CleanTypes

@[expose] public section

set_option maxRecDepth 16384

noncomputable section

namespace Cert.RefValue

open Idealize.ShloMosaic Idealize.ShloMosaic.TcCoe Idealize.SL.Sem
open Cert.ReferenceIdeal Cert.ReferenceIdeal.Value Cert.Formula

/-- The arrays of a valuation that reach the result. -/
def args (V : Valuation τ sig (Elt Ideal)) : Args where
  ts b := V (Proc.devRef .tc main_arg2) (ix1 b)
  init d := V (Proc.devRef .tc main_arg3) (ix2 0 d)
  tW1 k n := V (Proc.devRef .tc main_arg4) (ix2 k n)
  tb1 n := V (Proc.devRef .tc main_arg5) (ix1 n)
  tW2 k n := V (Proc.devRef .tc main_arg6) (ix2 k n)
  tb2 n := V (Proc.devRef .tc main_arg7) (ix1 n)
  eW n d := V (Proc.devRef .tc main_arg8) (ix2 n d)
  eb d := V (Proc.devRef .tc main_arg9) (ix1 d)
  wv k n := V (Proc.devRef .tc main_arg17) (ix2 k n)
  wo n d := V (Proc.devRef .tc main_arg18) (ix2 n d)
  bo d := V (Proc.devRef .tc main_arg19) (ix1 d)
  nw e d := V (Proc.devRef .tc main_arg20) (ix2 e d)
  nb d := V (Proc.devRef .tc main_arg21) (ix1 d)

/-- The arrays the logits are computed from hold reals. -/
structure RealArgs (V : Valuation τ sig (Elt Ideal)) : Prop where
  init : ∀ d, IsReal ((args V).init d)
  tW1 : ∀ k n, IsReal ((args V).tW1 k n)
  tb1 : ∀ n, IsReal ((args V).tb1 n)
  tW2 : ∀ k n, IsReal ((args V).tW2 k n)
  tb2 : ∀ n, IsReal ((args V).tb2 n)
  eW : ∀ n d, IsReal ((args V).eW n d)
  eb : ∀ d, IsReal ((args V).eb d)
  q1 : ∀ (k : Fin 768) (n : Fin 512), IsReal (V (Proc.devRef .tc main_arg10) (ix2 k n))
  k1 : ∀ (k : Fin 768) (n : Fin 512), IsReal (V (Proc.devRef .tc main_arg11) (ix2 k n))
  v1 : ∀ (k : Fin 768) (n : Fin 512), IsReal (V (Proc.devRef .tc main_arg12) (ix2 k n))
  o1 : ∀ (n : Fin 512) (d : Fin 768), IsReal (V (Proc.devRef .tc main_arg13) (ix2 n d))
  b1 : ∀ d : Fin 768, IsReal (V (Proc.devRef .tc main_arg14) (ix1 d))
  q2 : ∀ (k : Fin 768) (n : Fin 512), IsReal (V (Proc.devRef .tc main_arg15) (ix2 k n))
  k2 : ∀ (k : Fin 768) (n : Fin 512), IsReal (V (Proc.devRef .tc main_arg16) (ix2 k n))

variable (V : Valuation τ sig (Elt Ideal))

theorem v14 (b : Fin 128) (k : Fin 384) : res_main_v14 (F := Ideal) V (ix2 b k) = angle (args V) b k := by
  unfold res_main_v14
  clean_types
  pointwise
  rfl

theorem v21 (b : Fin 128) (n : Fin 3072) : res_main_v21 (F := Ideal) V (ix2 b n) = first (args V) b n := by
  unfold res_main_v21
  clean_types
  pointwise
  simp only [v14]
  rfl

theorem v26 (b : Fin 128) (n : Fin 3072) : res_main_v26 (F := Ideal) V (ix2 b n) = second (args V) b n := by
  unfold res_main_v26
  clean_types
  pointwise
  simp only [v21]
  rfl

theorem v35 (b : Fin 128) (d : Fin 768) : res_main_v35 (F := Ideal) V (ix3 b 0 d) = emb (args V) b d := by
  unfold res_main_v35
  clean_types
  pointwise
  simp only [v26]
  rfl

variable {V} (hV : RealArgs V)

include hV in
theorem real_v35 (b : Fin 128) (d : Fin 768) : IsReal (res_main_v35 (F := Ideal) V (ix3 b 0 d)) := by
  rw [v35]
  exact real_emb _ hV.init hV.tW1 hV.tb1 hV.tW2 hV.tb2 hV.eW hV.eb b d

include hV in
/-- The first attention's logit is real. -/
theorem real_v47 (b : Fin 128) (k : Fin 8) : IsReal (res_main_v47 (F := Ideal) V (ix4 b k 0 0)) := by
  unfold res_main_v47
  clean_types
  pointwise
  exact real_mul (real_sum _ fun x => real_mul (real_sum _ fun y => real_mul (real_v35 hV b y) (hV.q1 _ _))
    (real_sum _ fun y => real_mul (real_v35 hV b y) (hV.k1 _ _))) eighth

include hV in
theorem v53 (b : Fin 128) (k : Fin 8) : res_main_v53 (F := Ideal) V (ix4 b k 0 0) = (1 : EReal) := by
  unfold res_main_v53
  clean_types
  pointwise
  exact shifted_exp (real_v47 hV b k) _ rfl

include hV in
/-- The second attention's logit is real. -/
theorem real_v75 (b : Fin 128) (k : Fin 8) : IsReal (res_main_v75 (F := Ideal) V (ix4 b k 0 0)) := by
  unfold res_main_v75
  clean_types
  pointwise
  refine real_mul (real_sum _ fun x => real_mul (real_sum _ fun y => real_mul (real_add (real_sum _ fun z => real_mul ?_ (hV.o1 _ _))
    (hV.b1 _)) (hV.q2 _ _)) (real_sum _ fun y => real_mul (real_v35 hV b y) (hV.k2 _ _))) eighth
  rw [weigh_one (fun x => res_main_v53 V (ix4 b _ 0 x)) (v53 hV b _)]
  exact real_sum _ fun y => real_mul (real_v35 hV b y) (hV.v1 _ _)

include hV in
theorem v81 (b : Fin 128) (k : Fin 8) : res_main_v81 (F := Ideal) V (ix4 b k 0 0) = (1 : EReal) := by
  unfold res_main_v81
  clean_types
  pointwise
  exact shifted_exp (real_v75 hV b k) _ rfl

/-- A choice by the comparison of two words. -/
theorem select_word (x y : BitVec 32) (a b : EReal) : Scalar.select (IntOp.cmpi .eq x y) a b = if x = y then a else b := by
  by_cases h : x = y
  · subst h; simp [Scalar.select, IntOp.cmpi]
  · have hb : (x == y) = false := by simpa using h
    simp [Scalar.select, IntOp.cmpi, h, hb]

/-- The reference writes the row's placeholder embedding where the token is the placeholder, and the embedded text elsewhere. -/
theorem run_value (m : (ℓ : Loc nD τ sig) → Buf (Elt Ideal) ℓ) (g : Dev nD → PrngReg)
    (hm : ∀ c, RealArgs (StableHlo.launchContents m c)) :
    θ_run defs (onTc (τ := τ) (main (F := Ideal))) ⟨m, fun _ => 0, g⟩ fun r => ∀ c : Dev nD,
      (∀ (b : Fin 128) (j : Fin 77) (d : Fin 768), (r.2.mem ((c.tc : Thread nD τ).loc main_v101) : S128x77x768.Idx → EReal) (ix3 b j d)
        = if (m ((c.tc : Thread nD τ).loc main_arg0) : S128x77.Idx → BitVec 32) (ix2 b j) = 49408#32
          then Formula.out (args (StableHlo.launchContents m c)) b d
          else (m ((c.tc : Thread nD τ).loc main_arg1) : S128x77x768.Idx → EReal) (ix3 b j d))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) := by
  refine (θ_run defs _ _).mono (fun r h c => ⟨fun b j d => (congrFun (h c).1 (ix3 b j d)).trans ?_, (h c).2⟩) (Value.run (F := Ideal) m g)
  clean_types
  pointwise
  have hw (x : Fin 512) (v : EReal) := weigh_one (fun y => res_main_v81 (StableHlo.launchContents m c) (ix4 b ⟨x.val / 64, by omega⟩ 0 y))
    (v81 (hm c) b _) v
  simp only [hw, v35]
  exact select_word _ _ _ _

end Cert.RefValue

end
-- ==== Proof.Algebraic.lean ====
/-
  The value claim: from memories that agree on the arguments, the idealized kernel and the idealized reference end with the same
  result, element by element.
-/
module

public import proofs.«01_k».proof.Proof.FramesOne
public import proofs.«01_k».proof.Proof.KernelIdeal.Value
public import proofs.«01_k».proof.Proof.RefValue

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts
attribute [local instance] Cert.Pre_one_placeholder_finite_weights.facts

/-- An array equal to one of reals is one of reals. -/
theorem carry {α : Type} {f g : α → EReal} (e : f = g) (hg : ∀ i, ∃ r : ℝ, g i = r) (i : α) : Formula.IsReal (f i) := e ▸ hg i

theorem algebraic : algebraic_KernelIdeal_ReferenceIdeal_pre_one_placeholder_finite_weights := by
  intro m g m' g' h hag
  have hreal (c : Dev Cert.KernelIdeal.nD) : RefValue.RealArgs (StableHlo.launchContents m' c) := by
    obtain ⟨e0, e1, e2, e3, e4, e5, e6, e7, e8, e9, e10, e11, e12, e13, e14, e15, e16, e17, e18, e19, e20, e21⟩ := hag c
    exact {
    init d := carry e3 (PreFacts.real3 _ _ _ _ _ _ _ _ _ _ _ _ _ _ _ _ _ _ _ _ _ _ (h c).2.1) _
    tW1 k n := carry e4 (PreFacts.real4 _ _ _ _ _ _ _ _ _ _ _ _ _ _ _ _ _ _ _ _ _ _ (h c).2.2.1) _
    tb1 n := carry e5 (PreFacts.real5 _ _ _ _ _ _ _ _ _ _ _ _ _ _ _ _ _ _ _ _ _ _ (h c).2.2.2.1) _
    tW2 k n := carry e6 (PreFacts.real6 _ _ _ _ _ _ _ _ _ _ _ _ _ _ _ _ _ _ _ _ _ _ (h c).2.2.2.2.1) _
    tb2 n := carry e7 (PreFacts.real7 _ _ _ _ _ _ _ _ _ _ _ _ _ _ _ _ _ _ _ _ _ _ (h c).2.2.2.2.2.1) _
    eW n d := carry e8 (PreFacts.real8 _ _ _ _ _ _ _ _ _ _ _ _ _ _ _ _ _ _ _ _ _ _ (h c).2.2.2.2.2.2.1) _
    eb d := carry e9 (PreFacts.real9 _ _ _ _ _ _ _ _ _ _ _ _ _ _ _ _ _ _ _ _ _ _ (h c).2.2.2.2.2.2.2.1) _
    q1 k n := carry e10 (PreFacts.real10 _ _ _ _ _ _ _ _ _ _ _ _ _ _ _ _ _ _ _ _ _ _ (h c).2.2.2.2.2.2.2.2.1) _
    k1 k n := carry e11 (PreFacts.real11 _ _ _ _ _ _ _ _ _ _ _ _ _ _ _ _ _ _ _ _ _ _ (h c).2.2.2.2.2.2.2.2.2.1) _
    v1 k n := carry e12 (PreFacts.real12 _ _ _ _ _ _ _ _ _ _ _ _ _ _ _ _ _ _ _ _ _ _ (h c).2.2.2.2.2.2.2.2.2.2.1) _
    o1 n d := carry e13 (PreFacts.real13 _ _ _ _ _ _ _ _ _ _ _ _ _ _ _ _ _ _ _ _ _ _ (h c).2.2.2.2.2.2.2.2.2.2.2.1) _
    b1 d := carry e14 (PreFacts.real14 _ _ _ _ _ _ _ _ _ _ _ _ _ _ _ _ _ _ _ _ _ _ (h c).2.2.2.2.2.2.2.2.2.2.2.2.1) _
    q2 k n := carry e15 (PreFacts.real15 _ _ _ _ _ _ _ _ _ _ _ _ _ _ _ _ _ _ _ _ _ _ (h c).2.2.2.2.2.2.2.2.2.2.2.2.2.1) _
    k2 k n := carry e16 (PreFacts.real16 _ _ _ _ _ _ _ _ _ _ _ _ _ _ _ _ _ _ _ _ _ _ (h c).2.2.2.2.2.2.2.2.2.2.2.2.2.2) _
    }
  have hargs (c : Dev Cert.KernelIdeal.nD) : RefValue.args (StableHlo.launchContents m' c) = KernelValue.args m c := by
    obtain ⟨e0, e1, e2, e3, e4, e5, e6, e7, e8, e9, e10, e11, e12, e13, e14, e15, e16, e17, e18, e19, e20, e21⟩ := hag c
    have a (f : Formula.Args) : f = ⟨f.ts, f.init, f.tW1, f.tb1, f.tW2, f.tb2, f.eW, f.eb, f.wv, f.wo, f.bo, f.nw, f.nb⟩ := rfl
    rw [a (RefValue.args _), a (KernelValue.args _ _), Formula.Args.mk.injEq]
    exact ⟨funext fun _ => congrFun e2 _, funext fun _ => congrFun e3 _, funext fun _ => funext fun _ => congrFun e4 _,
      funext fun _ => congrFun e5 _, funext fun _ => funext fun _ => congrFun e6 _, funext fun _ => congrFun e7 _,
      funext fun _ => funext fun _ => congrFun e8 _, funext fun _ => congrFun e9 _,
      funext fun _ => funext fun _ => congrFun e17 _, funext fun _ => funext fun _ => congrFun e18 _,
      funext fun _ => congrFun e19 _, funext fun _ => funext fun _ => congrFun e20 _, funext fun _ => congrFun e21 _⟩
  refine ⟨fun c => Cert.KernelIdeal.Hand.scatOut (Cert.KernelIdeal.Hand.V3 m g) c, ?_, ?_⟩
  · exact (θ_run Cert.KernelIdeal.defs _ _).mono
      (fun _ r c => ⟨Cert.KernelIdeal.Hand.read_result m g r.1 c, Cert.KernelIdeal.Hand.read_args m g r.1 c⟩)
      (Cert.KernelIdeal.Hand.run_all m g (Cert.KernelIdeal.Hand.slots_of_words m g (words_ideal_one m h)))
  · refine (θ_run Cert.ReferenceIdeal.defs _ _).mono (fun r hr c => ⟨?_, (hr c).2⟩) (RefValue.run_value m' g' hreal)
    have e0 := (hag c).1
    have e1 := (hag c).2.1
    funext i
    have hi : i = ix3 (i 0) (i 1) (i 2) := funext fun a => by fin_cases a <;> rfl
    obtain ⟨k, hk, hw⟩ := column_ideal m h c (i 0)
    rw [hi]
    refine ((hr c).1 (i 0) (i 1) (i 2)).trans (Eq.trans ?_ (KernelValue.result m g c (i 0) (i 1) (i 2)).symm)
    have hc : (m' ((c.tc : Thread Cert.ReferenceIdeal.nD Cert.ReferenceIdeal.τ).loc Cert.ReferenceIdeal.main_arg0) : Cert.ReferenceIdeal.S128x77.Idx → BitVec 32) (ix2 (i 0) (i 1)) = 49408#32
        ↔ (i 1).val = (PosWord.word (m ((c.tc : Thread Cert.KernelIdeal.nD Cert.KernelIdeal.τ).loc Cert.KernelIdeal.main_arg0)) (i 0)).toNat := by
      rw [hw, e0]
      exact (hk (i 1)).trans Fin.ext_iff
    exact if_congr hc (by rw [hargs c]) (congrFun e1 _)

end Cert.Proof

end
-- ==== Proof.lean ====
/-
  The certificate: the witnesses of the stated side conditions, then one theorem per claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic

/-- Everything claimed. -/
theorem claim : Cert.Claim :=
  ⟨Cert.Kernel.Gen.facts, Cert.KernelIdeal.Gen.facts, Cert.ReferenceIdeal.Gen.facts, Cert.Pre_position_in_row.facts,
    Cert.Pre_one_placeholder_finite_weights.facts, frame_kernel, frame_ideal, frame_ideal_one, frame_reference,
    frame_reference_one, trivial, algebraic⟩

end Cert.Proof

end
